-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_tokens [hPre_finite_tokens : Cert.Pre_finite_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_tokens [hPre_finite_tokens : Cert.Pre_finite_tokens.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_finite_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_finite_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_finite_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_finite_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_tokens [hKernelIdeal : Cert.KernelIdeal.Facts] [hPre_finite_tokens : Cert.Pre_finite_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_tokens m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_tokens [hReferenceIdeal : Cert.ReferenceIdeal.Facts] [hPre_finite_tokens : Cert.Pre_finite_tokens.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_tokens m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite_tokens [hKernelIdeal : Cert.KernelIdeal.Facts] [hReferenceIdeal : Cert.ReferenceIdeal.Facts] [hPre_finite_tokens : Cert.Pre_finite_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_tokens m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_tokens : Cert.Pre_finite_tokens.Facts),
    quiescent_Kernel (hKernel := hKernel)
    ∧ quiescent_KernelIdeal (hKernelIdeal := hKernelIdeal)
    ∧ quiescent_KernelIdeal_pre_finite_tokens (hKernelIdeal := hKernelIdeal) (hPre_finite_tokens := hPre_finite_tokens)
    ∧ quiescent_ReferenceIdeal (hReferenceIdeal := hReferenceIdeal)
    ∧ quiescent_ReferenceIdeal_pre_finite_tokens (hReferenceIdeal := hReferenceIdeal) (hPre_finite_tokens := hPre_finite_tokens)
    ∧ preserves_Kernel_KernelIdeal
    ∧ algebraic_KernelIdeal_ReferenceIdeal_pre_finite_tokens (hKernelIdeal := hKernelIdeal) (hReferenceIdeal := hReferenceIdeal) (hPre_finite_tokens := hPre_finite_tokens)
-- ==== Pre_finite_tokens.lean ====
abbrev S16x5x512 : Shape := ⟨3, ![16, 5, 512]⟩
abbrev S32768x512 : Shape := ⟨2, ![32768, 512]⟩
abbrev S32768 : Shape := ⟨1, ![32768]⟩
abbrev S3072x512 : Shape := ⟨2, ![3072, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S512x2 : Shape := ⟨2, ![512, 2]⟩
abbrev S2 : Shape := ⟨1, ![2]⟩
abbrev S_ : Shape := ⟨0, ![]⟩

class Facts : Prop where
  bcast_S_S16x5x512 : S_.BroadcastsInDim S16x5x512 (![] : Fin 0 → Fin S16x5x512.rank)
  bcast_S_S32768x512 : S_.BroadcastsInDim S32768x512 (![] : Fin 0 → Fin S32768x512.rank)
  bcast_S_S3072x512 : S_.BroadcastsInDim S3072x512 (![] : Fin 0 → Fin S3072x512.rank)
  bcast_S_S512 : S_.BroadcastsInDim S512 (![] : Fin 0 → Fin S512.rank)
  bcast_S_S512x512 : S_.BroadcastsInDim S512x512 (![] : Fin 0 → Fin S512x512.rank)
  bcast_S_S512x1 : S_.BroadcastsInDim S512x1 (![] : Fin 0 → Fin S512x1.rank)
  bcast_S_S1 : S_.BroadcastsInDim S1 (![] : Fin 0 → Fin S1.rank)

variable [Facts]

def fn_part1 {F : FTy → Type} [FloatOps F] (main_arg7 : FVec F S512x1 .f32) (main_arg8 : FVec F S1 .f32) (main_v2 : IVec S16x5x512 1) (main_v5 : IVec S32768x512 1) (main_v8 : IVec S3072x512 1) (main_v11 : IVec S512 1) (main_v14 : IVec S512x512 1) (main_v17 : IVec S512 1) : IVec S16x5x512 1 × IVec S32768x512 1 × IVec S3072x512 1 × IVec S512 1 × IVec S512x512 1 × IVec S512 1 × IVec S512x1 1 × IVec S1 1 :=
  let main_v18 : FVec F S512x1 .f32 := Host.absf main_arg7
  let main_cst_5 : FVec F S_ .f32 := constant S_ .f32 0x7F800000#32
  let main_v19 : FVec F S512x1 .f32 := broadcastInDim S512x1 ![] bcast_S_S512x1 main_cst_5
  let main_v20 : IVec S512x1 1 := cmpf .olt main_v18 main_v19
  let main_v21 : FVec F S1 .f32 := Host.absf main_arg8
  let main_cst_6 : FVec F S_ .f32 := constant S_ .f32 0x7F800000#32
  let main_v22 : FVec F S1 .f32 := broadcastInDim S1 ![] bcast_S_S1 main_cst_6
  let main_v23 : IVec S1 1 := cmpf .olt main_v21 main_v22
  (main_v2, main_v5, main_v8, main_v11, main_v14, main_v17, main_v20, main_v23)

def fn {F : FTy → Type} [FloatOps F] (main_arg0 : FVec F S16x5x512 .f32) (main_arg1 : FVec F S32768x512 .f32) (main_arg2 : IVec S32768 32) (main_arg3 : FVec F S3072x512 .f32) (main_arg4 : FVec F S512 .f32) (main_arg5 : FVec F S512x512 .f32) (main_arg6 : FVec F S512 .f32) (main_arg7 : FVec F S512x1 .f32) (main_arg8 : FVec F S1 .f32) (main_arg9 : FVec F S512x512 .f32) (main_arg10 : FVec F S512 .f32) (main_arg11 : FVec F S512x2 .f32) (main_arg12 : FVec F S2 .f32) : IVec S16x5x512 1 × IVec S32768x512 1 × IVec S3072x512 1 × IVec S512 1 × IVec S512x512 1 × IVec S512 1 × IVec S512x1 1 × IVec S1 1 :=
  let main_v0 : FVec F S16x5x512 .f32 := Host.absf main_arg0
  let main_cst : FVec F S_ .f32 := constant S_ .f32 0x7F800000#32
  let main_v1 : FVec F S16x5x512 .f32 := broadcastInDim S16x5x512 ![] bcast_S_S16x5x512 main_cst
  let main_v2 : IVec S16x5x512 1 := cmpf .olt main_v0 main_v1
  let main_v3 : FVec F S32768x512 .f32 := Host.absf main_arg1
  let main_cst_0 : FVec F S_ .f32 := constant S_ .f32 0x7F800000#32
  let main_v4 : FVec F S32768x512 .f32 := broadcastInDim S32768x512 ![] bcast_S_S32768x512 main_cst_0
  let main_v5 : IVec S32768x512 1 := cmpf .olt main_v3 main_v4
  let main_v6 : FVec F S3072x512 .f32 := Host.absf main_arg3
  let main_cst_1 : FVec F S_ .f32 := constant S_ .f32 0x7F800000#32
  let main_v7 : FVec F S3072x512 .f32 := broadcastInDim S3072x512 ![] bcast_S_S3072x512 main_cst_1
  let main_v8 : IVec S3072x512 1 := cmpf .olt main_v6 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S512x512 .f32 := Host.absf main_arg5
  let main_cst_3 : FVec F S_ .f32 := constant S_ .f32 0x7F800000#32
  let main_v13 : FVec F S512x512 .f32 := broadcastInDim S512x512 ![] bcast_S_S512x512 main_cst_3
  let main_v14 : IVec S512x512 1 := cmpf .olt main_v12 main_v13
  let main_v15 : FVec F S512 .f32 := Host.absf main_arg6
  let main_cst_4 : FVec F S_ .f32 := constant S_ .f32 0x7F800000#32
  let main_v16 : FVec F S512 .f32 := broadcastInDim S512 ![] bcast_S_S512 main_cst_4
  let main_v17 : IVec S512 1 := cmpf .olt main_v15 main_v16
  fn_part1 (F := F) main_arg7 main_arg8 main_v2 main_v5 main_v8 main_v11 main_v14 main_v17
-- ==== Kernel.lean ====
abbrev S16x5x512 : Shape := ⟨3, ![16, 5, 512]⟩
abbrev S32768x512 : Shape := ⟨2, ![32768, 512]⟩
abbrev S32768 : Shape := ⟨1, ![32768]⟩
abbrev S3072x512 : Shape := ⟨2, ![3072, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S512x2 : Shape := ⟨2, ![512, 2]⟩
abbrev S2 : Shape := ⟨1, ![2]⟩
abbrev S16x2560 : Shape := ⟨2, ![16, 2560]⟩
abbrev S2560x512 : Shape := ⟨2, ![2560, 512]⟩
abbrev S16x2048x1 : Shape := ⟨3, ![16, 2048, 1]⟩
abbrev S1x512 : Shape := ⟨2, ![1, 512]⟩
abbrev S512x16 : Shape := ⟨2, ![512, 16]⟩
abbrev S1x1 : Shape := ⟨2, ![1, 1]⟩
abbrev S1x2 : Shape := ⟨2, ![1, 2]⟩
abbrev S16x2 : Shape := ⟨2, ![16, 2]⟩
abbrev S1x2048x1 : Shape := ⟨3, ![1, 2048, 1]⟩
abbrev S2x2048x512 : Shape := ⟨3, ![2, 2048, 512]⟩
abbrev S16x512 : Shape := ⟨2, ![16, 512]⟩
abbrev S1x16 : Shape := ⟨2, ![1, 16]⟩
abbrev S_ : Shape := ⟨0, ![]⟩
abbrev S1x2048x512 : Shape := ⟨3, ![1, 2048, 512]⟩
abbrev S2048x512 : Shape := ⟨2, ![2048, 512]⟩
abbrev S2048x1 : Shape := ⟨2, ![2048, 1]⟩
abbrev S2048x16 : Shape := ⟨2, ![2048, 16]⟩
abbrev S16 : Shape := ⟨1, ![16]⟩
abbrev S16x16 : Shape := ⟨2, ![16, 16]⟩
abbrev S16x1 : Shape := ⟨2, ![16, 1]⟩

abbrev nBuf : Space → Nat
  | .hbm => 26
  | .vmem => 20
  | .smem => 0
  | _ => 0

abbrev bufTy : (tb : Table) → Fin (tcTables nBuf tb) → BufTy
  | .hbm, ⟨0, _⟩ => ⟨S16x5x512, .f32⟩
  | .hbm, ⟨1, _⟩ => ⟨S32768x512, .f32⟩
  | .hbm, ⟨2, _⟩ => ⟨S32768, .i32⟩
  | .hbm, ⟨3, _⟩ => ⟨S3072x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x1, .f32⟩
  | .hbm, ⟨8, _⟩ => ⟨S1, .f32⟩
  | .hbm, ⟨9, _⟩ => ⟨S512x512, .f32⟩
  | .hbm, ⟨10, _⟩ => ⟨S512, .f32⟩
  | .hbm, ⟨11, _⟩ => ⟨S512x2, .f32⟩
  | .hbm, ⟨12, _⟩ => ⟨S2, .f32⟩
  | .hbm, ⟨13, _⟩ => ⟨S16x2560, .f32⟩
  | .hbm, ⟨14, _⟩ => ⟨S512x512, .f32⟩
  | .hbm, ⟨15, _⟩ => ⟨S512x512, .bf16⟩
  | .hbm, ⟨16, _⟩ => ⟨S2560x512, .f32⟩
  | .hbm, ⟨17, _⟩ => ⟨S16x2048x1, .i32⟩
  | .hbm, ⟨18, _⟩ => ⟨S1x512, .f32⟩
  | .hbm, ⟨19, _⟩ => ⟨S512x512, .bf16⟩
  | .hbm, ⟨20, _⟩ => ⟨S1x512, .f32⟩
  | .hbm, ⟨21, _⟩ => ⟨S512x16, .f32⟩
  | .hbm, ⟨22, _⟩ => ⟨S1x1, .f32⟩
  | .hbm, ⟨23, _⟩ => ⟨S1x512, .f32⟩
  | .hbm, ⟨24, _⟩ => ⟨S1x2, .f32⟩
  | .hbm, ⟨25, _⟩ => ⟨S16x2, .f32⟩
  | .local _ .vmem, ⟨0, _⟩ => ⟨S1x2048x1, .i32⟩
  | .local _ .vmem, ⟨1, _⟩ => ⟨S1x2048x1, .i32⟩
  | .local _ .vmem, ⟨2, _⟩ => ⟨S16x2560, .f32⟩
  | .local _ .vmem, ⟨3, _⟩ => ⟨S512x512, .bf16⟩
  | .local _ .vmem, ⟨4, _⟩ => ⟨S2560x512, .f32⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x16, .f32⟩
  | .local _ .vmem, ⟨9, _⟩ => ⟨S1x1, .f32⟩
  | .local _ .vmem, ⟨10, _⟩ => ⟨S512x512, .f32⟩
  | .local _ .vmem, ⟨11, _⟩ => ⟨S1x512, .f32⟩
  | .local _ .vmem, ⟨12, _⟩ => ⟨S512x2, .f32⟩
  | .local _ .vmem, ⟨13, _⟩ => ⟨S1x2, .f32⟩
  | .local _ .vmem, ⟨14, _⟩ => ⟨S16x2, .f32⟩
  | .local _ .vmem, ⟨15, _⟩ => ⟨S2x2048x512, .f32⟩
  | .local _ .vmem, ⟨16, _⟩ => ⟨S16x512, .bf16⟩
  | .local _ .vmem, ⟨17, _⟩ => ⟨S1x16, .f32⟩
  | .local _ .vmem, ⟨18, _⟩ => ⟨S1x16, .f32⟩
  | .local _ .vmem, ⟨19, _⟩ => ⟨S16x512, .f32⟩
  | _, _ => ⟨S16x5x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_scratch0 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14

abbrev nD : Nat := 1
abbrev τ : Topo := Topo.v7x

variable {F : FTy → Type} [FloatOps F]

abbrev grid0 : Pipeline.Grid := ⟨1, ![16], ![false]⟩

def k0_off1 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off2 (i : grid0.Coords) : Fin 3 → Nat :=
  let arg0 : BitVec 32 := BitVec.ofNat 32 (i 0).val
  let c2_i32 : BitVec 32 := 2#32
  let v0 : BitVec 32 := Scalar.remsi arg0 c2_i32
  let c0_i32_4 : BitVec 32 := 0#32
  let c0_i32_5 : BitVec 32 := 0#32
  ![v0.toNat, 0, 0]
def k0_off3 (i : grid0.Coords) : Fin 2 → Nat :=
  let arg0 : BitVec 32 := BitVec.ofNat 32 (i 0).val
  let c2048_i32 : BitVec 32 := 2048#32
  let v9 : BitVec 32 := Scalar.muli arg0 c2048_i32
  let c0_i32_6 : BitVec 32 := 0#32
  ![v9.toNat, 0]
def k0_cond3 (i : grid0.Coords) : BitVec 1 :=
  let arg0 : BitVec 32 := BitVec.ofNat 32 (i 0).val
  let c1_i32_7 : BitVec 32 := 1#32
  let v15 : BitVec 32 := Scalar.addi arg0 c1_i32_7
  let c16_i32 : BitVec 32 := 16#32
  let v16 : BitVec 1 := Scalar.cmpi .slt v15 c16_i32
  let v17 : BitVec 32 := Scalar.extui v16
  let c0_i32_8 : BitVec 32 := 0#32
  let v18 : BitVec 1 := Scalar.cmpi .ne v17 c0_i32_8
  v18

def k0_off4 (i : grid0.Coords) : Fin 1 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  ![v2.toNat]
def k0_off5 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_52 : BitVec 32 := 0#32
  let c0_i32_53 : BitVec 32 := 0#32
  ![v2.toNat, 0, 0]
def k0_off6 (i : grid0.Coords) : Fin 2 → Nat :=
  let arg0 : BitVec 32 := BitVec.ofNat 32 (i 0).val
  let c1_i32_50 : BitVec 32 := 1#32
  let v101 : BitVec 32 := Scalar.addi arg0 c1_i32_50
  let c2048_i32_51 : BitVec 32 := 2048#32
  let v102 : BitVec 32 := Scalar.muli v101 c2048_i32_51
  let c0_i32_54 : BitVec 32 := 0#32
  ![v102.toNat, 0]
def k0_off7 (i : grid0.Coords) : Fin 3 → Nat :=
  let arg0 : BitVec 32 := BitVec.ofNat 32 (i 0).val
  let c2_i32 : BitVec 32 := 2#32
  let v0 : BitVec 32 := Scalar.remsi arg0 c2_i32
  let v19 : Index := Scalar.indexCast v0
  let c0 : Index := 0#32
  let c0_9 : Index := 0#32
  ![v19.toNat, 0, 0]
def k0_cond4 (i : grid0.Coords) : BitVec 1 :=
  let arg0 : BitVec 32 := BitVec.ofNat 32 (i 0).val
  let c15_i32 : BitVec 32 := 15#32
  let v98 : BitVec 1 := Scalar.cmpi .eq arg0 c15_i32
  let v99 : BitVec 32 := Scalar.extui v98
  let c0_i32_49 : BitVec 32 := 0#32
  let v100 : BitVec 1 := Scalar.cmpi .ne v99 c0_i32_49
  v100

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2560x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S16x5x512 : Shape := ⟨3, ![16, 5, 512]⟩
abbrev S32768x512 : Shape := ⟨2, ![32768, 512]⟩
abbrev S32768 : Shape := ⟨1, ![32768]⟩
abbrev S3072x512 : Shape := ⟨2, ![3072, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S512x2 : Shape := ⟨2, ![512, 2]⟩
abbrev S2 : Shape := ⟨1, ![2]⟩
abbrev S16x2560 : Shape := ⟨2, ![16, 2560]⟩
abbrev S_ : Shape := ⟨0, ![]⟩
abbrev S32768x1 : Shape := ⟨2, ![32768, 1]⟩
abbrev S1x1 : Shape := ⟨2, ![1, 1]⟩
abbrev S32768x2560 : Shape := ⟨2, ![32768, 2560]⟩
abbrev S32768x3072 : Shape := ⟨2, ![32768, 3072]⟩
abbrev S1x512 : Shape := ⟨2, ![1, 512]⟩
abbrev S1x32768 : Shape := ⟨2, ![1, 32768]⟩
abbrev S16 : Shape := ⟨1, ![16]⟩
abbrev S16x1 : Shape := ⟨2, ![16, 1]⟩
abbrev S16x32768 : Shape := ⟨2, ![16, 32768]⟩
abbrev S16x512 : Shape := ⟨2, ![16, 512]⟩
abbrev S16x2 : Shape := ⟨2, ![16, 2]⟩
abbrev S1x2 : Shape := ⟨2, ![1, 2]⟩

abbrev nBuf : Space → Nat
  | .hbm => 114
  | .vmem => 0
  | .smem => 0
  | _ => 0

abbrev bufTy : (tb : Table) → Fin (tcTables nBuf tb) → BufTy
  | .hbm, ⟨0, _⟩ => ⟨S16x5x512, .f32⟩
  | .hbm, ⟨1, _⟩ => ⟨S32768x512, .f32⟩
  | .hbm, ⟨2, _⟩ => ⟨S32768, .i32⟩
  | .hbm, ⟨3, _⟩ => ⟨S3072x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x1, .f32⟩
  | .hbm, ⟨8, _⟩ => ⟨S1, .f32⟩
  | .hbm, ⟨9, _⟩ => ⟨S512x512, .f32⟩
  | .hbm, ⟨10, _⟩ => ⟨S512, .f32⟩
  | .hbm, ⟨11, _⟩ => ⟨S512x2, .f32⟩
  | .hbm, ⟨12, _⟩ => ⟨S2, .f32⟩
  | .hbm, ⟨13, _⟩ => ⟨S16x2560, .f32⟩
  | .hbm, ⟨14, _⟩ => ⟨S_, .i32⟩
  | .hbm, ⟨15, _⟩ => ⟨S32768, .i32⟩
  | .hbm, ⟨16, _⟩ => ⟨S32768, .i1⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S32768, .i32⟩
  | .hbm, ⟨21, _⟩ => ⟨S32768x1, .i32⟩
  | .hbm, ⟨22, _⟩ => ⟨S1, .i32⟩
  | .hbm, ⟨23, _⟩ => ⟨S_, .i32⟩
  | .hbm, ⟨24, _⟩ => ⟨S32768x1, .i32⟩
  | .hbm, ⟨25, _⟩ => ⟨S32768x1, .i1⟩
  | .hbm, ⟨26, _⟩ => ⟨S1x1, .i32⟩
  | .hbm, ⟨27, _⟩ => ⟨S32768x1, .i32⟩
  | .hbm, ⟨28, _⟩ => ⟨S32768x1, .i1⟩
  | .hbm, ⟨29, _⟩ => ⟨S32768x1, .i1⟩
  | .hbm, ⟨30, _⟩ => ⟨S_, .i1⟩
  | .hbm, ⟨31, _⟩ => ⟨S32768, .i1⟩
  | .hbm, ⟨32, _⟩ => ⟨S32768x2560, .f32⟩
  | .hbm, ⟨33, _⟩ => ⟨S32768x2560, .i1⟩
  | .hbm, ⟨34, _⟩ => ⟨S_, .f32⟩
  | .hbm, ⟨35, _⟩ => ⟨S32768x2560, .f32⟩
  | .hbm, ⟨36, _⟩ => ⟨S32768x2560, .f32⟩
  | .hbm, ⟨37, _⟩ => ⟨S32768x3072, .f32⟩
  | .hbm, ⟨38, _⟩ => ⟨S32768x512, .f32⟩
  | .hbm, ⟨39, _⟩ => ⟨S1x512, .f32⟩
  | .hbm, ⟨40, _⟩ => ⟨S32768x512, .f32⟩
  | .hbm, ⟨41, _⟩ => ⟨S32768x512, .f32⟩
  | .hbm, ⟨42, _⟩ => ⟨S_, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S1x512, .f32⟩
  | .hbm, ⟨47, _⟩ => ⟨S32768x512, .f32⟩
  | .hbm, ⟨48, _⟩ => ⟨S32768x512, .f32⟩
  | .hbm, ⟨49, _⟩ => ⟨S_, .f32⟩
  | .hbm, ⟨50, _⟩ => ⟨S32768x512, .f32⟩
  | .hbm, ⟨51, _⟩ => ⟨S32768x512, .f32⟩
  | .hbm, ⟨52, _⟩ => ⟨S32768x1, .f32⟩
  | .hbm, ⟨53, _⟩ => ⟨S1x1, .f32⟩
  | .hbm, ⟨54, _⟩ => ⟨S32768x1, .f32⟩
  | .hbm, ⟨55, _⟩ => ⟨S32768x1, .f32⟩
  | .hbm, ⟨56, _⟩ => ⟨S32768, .f32⟩
  | .hbm, ⟨57, _⟩ => ⟨S1x32768, .i32⟩
  | .hbm, ⟨58, _⟩ => ⟨S16, .i32⟩
  | .hbm, ⟨59, _⟩ => ⟨S16x1, .i32⟩
  | .hbm, ⟨60, _⟩ => ⟨S16x32768, .i32⟩
  | .hbm, ⟨61, _⟩ => ⟨S16x32768, .i32⟩
  | .hbm, ⟨62, _⟩ => ⟨S16x32768, .i1⟩
  | .hbm, ⟨63, _⟩ => ⟨S1x32768, .f32⟩
  | .hbm, ⟨64, _⟩ => ⟨S_, .f32⟩
  | .hbm, ⟨65, _⟩ => ⟨S_, .f32⟩
  | .hbm, ⟨66, _⟩ => ⟨S16x32768, .f32⟩
  | .hbm, ⟨67, _⟩ => ⟨S16x32768, .f32⟩
  | .hbm, ⟨68, _⟩ => ⟨S16x32768, .f32⟩
  | .hbm, ⟨69, _⟩ => ⟨S_, .f32⟩
  | .hbm, ⟨70, _⟩ => ⟨S16, .f32⟩
  | .hbm, ⟨71, _⟩ => ⟨S_, .i32⟩
  | .hbm, ⟨72, _⟩ => ⟨S32768, .i32⟩
  | .hbm, ⟨73, _⟩ => ⟨S32768, .i1⟩
  | .hbm, ⟨74, _⟩ => ⟨S_, .i32⟩
  | .hbm, ⟨75, _⟩ => ⟨S32768, .i32⟩
  | .hbm, ⟨76, _⟩ => ⟨S32768, .i32⟩
  | .hbm, ⟨77, _⟩ => ⟨S32768, .i32⟩
  | .hbm, ⟨78, _⟩ => ⟨S32768x1, .i32⟩
  | .hbm, ⟨79, _⟩ => ⟨S32768, .f32⟩
  | .hbm, ⟨80, _⟩ => ⟨S32768, .f32⟩
  | .hbm, ⟨81, _⟩ => ⟨S32768, .f32⟩
  | .hbm, ⟨82, _⟩ => ⟨S_, .f32⟩
  | .hbm, ⟨83, _⟩ => ⟨S16, .f32⟩
  | .hbm, ⟨84, _⟩ => ⟨S32768x1, .i32⟩
  | .hbm, ⟨85, _⟩ => ⟨S16, .f32⟩
  | .hbm, ⟨86, _⟩ => ⟨S_, .i32⟩
  | .hbm, ⟨87, _⟩ => ⟨S32768, .i32⟩
  | .hbm, ⟨88, _⟩ => ⟨S32768, .i1⟩
  | .hbm, ⟨89, _⟩ => ⟨S_, .i32⟩
  | .hbm, ⟨90, _⟩ => ⟨S32768, .i32⟩
  | .hbm, ⟨91, _⟩ => ⟨S32768, .i32⟩
  | .hbm, ⟨92, _⟩ => ⟨S32768, .i32⟩
  | .hbm, ⟨93, _⟩ => ⟨S32768x1, .i32⟩
  | .hbm, ⟨94, _⟩ => ⟨S32768, .f32⟩
  | .hbm, ⟨95, _⟩ => ⟨S32768, .f32⟩
  | .hbm, ⟨96, _⟩ => ⟨S32768x1, .f32⟩
  | .hbm, ⟨97, _⟩ => ⟨S32768x512, .f32⟩
  | .hbm, ⟨98, _⟩ => ⟨S32768x512, .f32⟩
  | .hbm, ⟨99, _⟩ => ⟨S_, .f32⟩
  | .hbm, ⟨100, _⟩ => ⟨S16x512, .f32⟩
  | .hbm, ⟨101, _⟩ => ⟨S32768x1, .i32⟩
  | .hbm, ⟨102, _⟩ => ⟨S16x512, .f32⟩
  | .hbm, ⟨103, _⟩ => ⟨S16x512, .f32⟩
  | .hbm, ⟨104, _⟩ => ⟨S1x512, .f32⟩
  | .hbm, ⟨105, _⟩ => ⟨S16x512, .f32⟩
  | .hbm, ⟨106, _⟩ => ⟨S16x512, .f32⟩
  | .hbm, ⟨107, _⟩ => ⟨S_, .f32⟩
  | .hbm, ⟨108, _⟩ => ⟨S16x512, .f32⟩
  | .hbm, ⟨109, _⟩ => ⟨S16x512, .f32⟩
  | .hbm, ⟨110, _⟩ => ⟨S16x2, .f32⟩
  | .hbm, ⟨111, _⟩ => ⟨S1x2, .f32⟩
  | .hbm, ⟨112, _⟩ => ⟨S16x2, .f32⟩
  | .hbm, ⟨113, _⟩ => ⟨S16x2, .f32⟩
  | _, _ => ⟨S16x5x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_call1_cst : Ref sig .tc := ⟨.hbm, 42, rfl⟩
abbrev main_call1_v0 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_call2_cst : Ref sig .tc := ⟨.hbm, 49, rfl⟩
abbrev main_call2_v0 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v25 : Ref sig .tc := ⟨.hbm, 68, rfl⟩
abbrev main_cst_0 : Ref sig .tc := ⟨.hbm, 69, rfl⟩
abbrev main_v26 : Ref sig .tc := ⟨.hbm, 70, rfl⟩
abbrev main_c : Ref sig .tc := ⟨.hbm, 71, rfl⟩
abbrev main_v27 : Ref sig .tc := ⟨.hbm, 72, rfl⟩
abbrev main_v28 : Ref sig .tc := ⟨.hbm, 73, rfl⟩
abbrev main_c_1 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_cst_2 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_c_3 : Ref sig .tc := ⟨.hbm, 86, rfl⟩
abbrev main_v39 : Ref sig .tc := ⟨.hbm, 87, rfl⟩
abbrev main_v40 : Ref sig .tc := ⟨.hbm, 88, rfl⟩
abbrev main_c_4 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_cst_5 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_call4_cst : Ref sig .tc := ⟨.hbm, 107, rfl⟩
abbrev main_call4_v0 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩

abbrev nD : Nat := 1
abbrev τ : Topo := Topo.v7x

variable {F : FTy → Type} [FloatOps F]
-- ==== Proof.RingKit.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

/-! What the runs of the kernel at the three kinds of grid point (first, middle, last) share: the conditions of the
    kernel's conditionals, the buffers, and the pair of slots through which the token blocks are copied in. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The host operations before the kernel call lead to the region with the arrays at `V`. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Window 0 (an input) holds its block of the array at every grid point. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 (an input) holds its block of the array at every grid point. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2 (an input) holds its block of the array at every grid point. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3 (an input) holds its block of the array at every grid point. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4 (an input) holds its block of the array at every grid point. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Window 5 (an input) holds its block of the array at every grid point. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Window 6 (an input) holds its block of the array at every grid point. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Window 7 (an input) holds its block of the array at every grid point. -/
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Window 8 (an input) holds its block of the array at every grid point. -/
theorem before0_8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Window 9 (an input) holds its block of the array at every grid point. -/
theorem before0_9_of {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Window 10 (an input) holds its block of the array at every grid point. -/
theorem before0_10_of {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Window 11 (an input) holds its block of the array at every grid point. -/
theorem before0_11_of {c : Dev nD} (dat : Dat τ (Elt F) Unit ℕ (Pipeline.UD sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Window 12 (an input) holds its block of the array at every grid point. -/
theorem before0_12_of {c : Dev nD} (dat : Dat τ (Elt F) Unit ℕ (Pipeline.UD sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- A run that ends with every array as the proof data says leaves the arguments as they were. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 9).trans (((dats 0 c).arrAt_in 9 rfl _).trans ((hA c 9).trans (V_main_arg9 m c))),
      ((h c).2 main_arg10 (Pipeline.mem_restRefs_of main_arg10 (by decide) (by decide))).trans (V_main_arg10 m c),
      ((h c).1 11).trans (((dats 0 c).arrAt_in 11 rfl _).trans ((hA c 11).trans (V_main_arg11 m c))),
      ((h c).2 main_arg12 (Pipeline.mem_restRefs_of main_arg12 (by decide) (by decide))).trans (V_main_arg12 m c)⟩) h

/-- The condition of the kernel's conditional number 0, at the grid coordinates. -/
abbrev cond0_0 (i : grid0.Coords) : Prop := (Scalar.cmpi .ne (Scalar.extui (Scalar.cmpi .eq (BitVec.ofNat 32 (i 0).val) 0#32)) 0#32) = 1#1
/-- Condition 0, in terms of the number of the grid point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the kernel's conditional number 1, at the grid coordinates. -/
abbrev cond0_1 (i : grid0.Coords) : Prop := (Scalar.cmpi .ne (Scalar.extui (Scalar.cmpi .eq (BitVec.ofNat 32 (i 0).val) 0#32)) 0#32) = 1#1
/-- Condition 1, in terms of the number of the grid point. -/
theorem hcond0_1 : ∀ t : Fin cfg0.N, cond0_1 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_1, e0]
    word_cmp
   : ∀ t : Fin grid0.N, cond0_1 (grid0.coords t) ↔ t.val % 16 = 0)

/-- The condition of the kernel's conditional number 2, at the grid coordinates. -/
abbrev cond0_2 (i : grid0.Coords) : Prop := k0_cond3 i = 1#1
/-- Condition 2, in terms of the number of the grid point. -/
theorem hcond0_2 : ∀ t : Fin cfg0.N, cond0_2 (grid0.coords t) ↔ t.val < 15 :=
  (by decide +kernel : ∀ t : Fin grid0.N, cond0_2 (grid0.coords t) ↔ t.val < 15)

/-- The condition of the kernel's conditional number 3, at the grid coordinates. -/
abbrev cond0_3 (i : grid0.Coords) : Prop := k0_cond4 i = 1#1
/-- Condition 3, in terms of the number of the grid point. -/
theorem hcond0_3 : ∀ t : Fin cfg0.N, cond0_3 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_3, k0_cond4, e0]
    word_cmp
   : ∀ t : Fin grid0.N, cond0_3 (grid0.coords t) ↔ t.val % 16 = 15)

/-- Window 0 is in use at every point. -/
theorem liveAt0_0 : ∀ t : Fin cfg0.N, cfg0.idle 0 (grid0.coords t) = false := fun _ => rfl
/-- Window 1 is in use at every point. -/
theorem liveAt0_1 : ∀ t : Fin cfg0.N, cfg0.idle 1 (grid0.coords t) = false := fun _ => rfl
/-- Window 2 is in use at every point. -/
theorem liveAt0_2 : ∀ t : Fin cfg0.N, cfg0.idle 2 (grid0.coords t) = false := fun _ => rfl
/-- Window 3 is in use at every point. -/
theorem liveAt0_3 : ∀ t : Fin cfg0.N, cfg0.idle 3 (grid0.coords t) = false := fun _ => rfl
/-- Window 4 is in use at every point. -/
theorem liveAt0_4 : ∀ t : Fin cfg0.N, cfg0.idle 4 (grid0.coords t) = false := fun _ => rfl
/-- Window 5 is in use at every point. -/
theorem liveAt0_5 : ∀ t : Fin cfg0.N, cfg0.idle 5 (grid0.coords t) = false := fun _ => rfl
/-- Window 6 is in use at every point. -/
theorem liveAt0_6 : ∀ t : Fin cfg0.N, cfg0.idle 6 (grid0.coords t) = false := fun _ => rfl
/-- Window 7 is in use at every point. -/
theorem liveAt0_7 : ∀ t : Fin cfg0.N, cfg0.idle 7 (grid0.coords t) = false := fun _ => rfl
/-- Window 8 is in use at every point. -/
theorem liveAt0_8 : ∀ t : Fin cfg0.N, cfg0.idle 8 (grid0.coords t) = false := fun _ => rfl
/-- Window 9 is in use at every point. -/
theorem liveAt0_9 : ∀ t : Fin cfg0.N, cfg0.idle 9 (grid0.coords t) = false := fun _ => rfl
/-- Window 10 is in use at every point. -/
theorem liveAt0_10 : ∀ t : Fin cfg0.N, cfg0.idle 10 (grid0.coords t) = false := fun _ => rfl
/-- Window 11 is in use at every point. -/
theorem liveAt0_11 : ∀ t : Fin cfg0.N, cfg0.idle 11 (grid0.coords t) = false := fun _ => rfl
/-- Window 12 is in use at every point. -/
theorem liveAt0_12 : ∀ t : Fin cfg0.N, cfg0.idle 12 (grid0.coords t) = false := fun _ => rfl

/-- The output window is idle at every point but the last. -/
theorem idleAt0_13 : ∀ t : Fin cfg0.N, ¬cond0_3 (grid0.coords t) → cfg0.idle 13 (grid0.coords t) = true := by decide +kernel
/-- The output is not written back at a point before the last. -/
theorem noFlush0_13 : ∀ t : Fin cfg0.N, ¬cond0_3 (grid0.coords t) → (cfg0.win 13).flush t = false := by decide +kernel
/-- Window 13 is in use at every point. -/
theorem liveAt0_13 : ∀ t : Fin cfg0.N, cond0_3 (grid0.coords t) → cfg0.idle 13 (grid0.coords t) = false := by decide +kernel

/-- The buffer of window 0 in use at point `t`. -/
abbrev ms0_0 (t : Fin cfg0.N) : Memref sig .tc .vmem S1x2048x1 .i32 := win0_0.stage (cfg0.slots t 0)
/-- It is a whole buffer. -/
abbrev hs0_0 (t : Fin cfg0.N) : (ms0_0 t).IsWhole := hstage0_0 ((cfg0.slots t 0).cast nbuf0_0)
/-- The buffer of window 1 in use at point `t`. -/
abbrev ms0_1 (t : Fin cfg0.N) : Memref sig .tc .vmem S16x2560 .f32 := win0_1.stage (cfg0.slots t 1)
/-- It is a whole buffer. -/
abbrev hs0_1 (t : Fin cfg0.N) : (ms0_1 t).IsWhole := hstage0_1 ((cfg0.slots t 1).cast nbuf0_1)
/-- The buffer of window 2 in use at point `t`. -/
abbrev ms0_2 (t : Fin cfg0.N) : Memref sig .tc .vmem S512x512 .bf16 := win0_2.stage (cfg0.slots t 2)
/-- It is a whole buffer. -/
abbrev hs0_2 (t : Fin cfg0.N) : (ms0_2 t).IsWhole := hstage0_2 ((cfg0.slots t 2).cast nbuf0_2)
/-- The buffer of window 3 in use at point `t`. -/
abbrev ms0_3 (t : Fin cfg0.N) : Memref sig .tc .vmem S2560x512 .f32 := win0_3.stage (cfg0.slots t 3)
/-- It is a whole buffer. -/
abbrev hs0_3 (t : Fin cfg0.N) : (ms0_3 t).IsWhole := hstage0_3 ((cfg0.slots t 3).cast nbuf0_3)
/-- The buffer of window 4 in use at point `t`. -/
abbrev ms0_4 (t : Fin cfg0.N) : Memref sig .tc .vmem S1x512 .f32 := win0_4.stage (cfg0.slots t 4)
/-- It is a whole buffer. -/
abbrev hs0_4 (t : Fin cfg0.N) : (ms0_4 t).IsWhole := hstage0_4 ((cfg0.slots t 4).cast nbuf0_4)
/-- The buffer of window 5 in use at point `t`. -/
abbrev ms0_5 (t : Fin cfg0.N) : Memref sig .tc .vmem S512x512 .bf16 := win0_5.stage (cfg0.slots t 5)
/-- It is a whole buffer. -/
abbrev hs0_5 (t : Fin cfg0.N) : (ms0_5 t).IsWhole := hstage0_5 ((cfg0.slots t 5).cast nbuf0_5)
/-- The buffer of window 6 in use at point `t`. -/
abbrev ms0_6 (t : Fin cfg0.N) : Memref sig .tc .vmem S1x512 .f32 := win0_6.stage (cfg0.slots t 6)
/-- It is a whole buffer. -/
abbrev hs0_6 (t : Fin cfg0.N) : (ms0_6 t).IsWhole := hstage0_6 ((cfg0.slots t 6).cast nbuf0_6)
/-- The buffer of window 7 in use at point `t`. -/
abbrev ms0_7 (t : Fin cfg0.N) : Memref sig .tc .vmem S512x16 .f32 := win0_7.stage (cfg0.slots t 7)
/-- It is a whole buffer. -/
abbrev hs0_7 (t : Fin cfg0.N) : (ms0_7 t).IsWhole := hstage0_7 ((cfg0.slots t 7).cast nbuf0_7)
/-- The buffer of window 8 in use at point `t`. -/
abbrev ms0_8 (t : Fin cfg0.N) : Memref sig .tc .vmem S1x1 .f32 := win0_8.stage (cfg0.slots t 8)
/-- It is a whole buffer. -/
abbrev hs0_8 (t : Fin cfg0.N) : (ms0_8 t).IsWhole := hstage0_8 ((cfg0.slots t 8).cast nbuf0_8)
/-- The buffer of window 9 in use at point `t`. -/
abbrev ms0_9 (t : Fin cfg0.N) : Memref sig .tc .vmem S512x512 .f32 := win0_9.stage (cfg0.slots t 9)
/-- It is a whole buffer. -/
abbrev hs0_9 (t : Fin cfg0.N) : (ms0_9 t).IsWhole := hstage0_9 ((cfg0.slots t 9).cast nbuf0_9)
/-- The buffer of window 10 in use at point `t`. -/
abbrev ms0_10 (t : Fin cfg0.N) : Memref sig .tc .vmem S1x512 .f32 := win0_10.stage (cfg0.slots t 10)
/-- It is a whole buffer. -/
abbrev hs0_10 (t : Fin cfg0.N) : (ms0_10 t).IsWhole := hstage0_10 ((cfg0.slots t 10).cast nbuf0_10)
/-- The buffer of window 11 in use at point `t`. -/
abbrev ms0_11 (t : Fin cfg0.N) : Memref sig .tc .vmem S512x2 .f32 := win0_11.stage (cfg0.slots t 11)
/-- It is a whole buffer. -/
abbrev hs0_11 (t : Fin cfg0.N) : (ms0_11 t).IsWhole := hstage0_11 ((cfg0.slots t 11).cast nbuf0_11)
/-- The buffer of window 12 in use at point `t`. -/
abbrev ms0_12 (t : Fin cfg0.N) : Memref sig .tc .vmem S1x2 .f32 := win0_12.stage (cfg0.slots t 12)
/-- It is a whole buffer. -/
abbrev hs0_12 (t : Fin cfg0.N) : (ms0_12 t).IsWhole := hstage0_12 ((cfg0.slots t 12).cast nbuf0_12)
/-- The buffer of window 13 in use at point `t`. -/
abbrev ms0_13 (t : Fin cfg0.N) : Memref sig .tc .vmem S16x2 .f32 := win0_13.stage (cfg0.slots t 13)
/-- It is a whole buffer. -/
abbrev hs0_13 (t : Fin cfg0.N) : (ms0_13 t).IsWhole := hstage0_13 ((cfg0.slots t 13).cast nbuf0_13)
/-- The two slots the token blocks are copied into. -/
abbrev scM0_0 : Memref sig .tc .vmem S2x2048x512 .f32 := Memref.whole cc0_scratch0
/-- The scratch that holds the segments' part of the first layer. -/
abbrev scM0_1 : Memref sig .tc .vmem S16x512 .bf16 := Memref.whole cc0_scratch2
/-- The scratch that holds the running maxima. -/
abbrev scM0_2 : Memref sig .tc .vmem S1x16 .f32 := Memref.whole cc0_scratch3
/-- The scratch that holds the running sums. -/
abbrev scM0_3 : Memref sig .tc .vmem S1x16 .f32 := Memref.whole cc0_scratch4
/-- The scratch that holds the running weighted sums. -/
abbrev scM0_4 : Memref sig .tc .vmem S16x512 .f32 := Memref.whole cc0_scratch5
/-- The token array, left in main memory. -/
abbrev hbM0_0 : Memref sig .tc .hbm S32768x512 .f32 := Memref.whole main_arg1
/-- Contents of the buffer behind a memref. -/
abbrev HbBuf0 (c : Dev nD) {sp : Space} {S : Shape} {e : EltTy} (M : Memref sig .tc sp S e) : Type := Buf (Elt F) (M.view.loc (c : Thread nD τ))
/-- A whole buffer held at given contents. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The two semaphores the kernel's own copies signal. -/
abbrev osem0 : Fin 2 → SemLoc sig := fun j => (![SemLoc.dma 15, SemLoc.dma 16] : Fin 2 → SemLoc sig) j
/-- They are no window's semaphores. -/
theorem ownSemFacts0 : Pipeline.OwnSemFacts spec0 osem0 := by decide
/-- The two semaphores at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0) := by
  rw [Pipeline.ownSems0_eq_of_list c osem0 [0, 1] (by decide) (by decide)]; rfl
/-- The arrays the kernel reads by its own copies. -/
def H0 : Finset (Ref sig .tc) := {main_arg1}
/-- They are no window's arrays. -/
theorem H0_sub : H0 ⊆ Pipeline.restRefs sig spec0 := by decide
/-- Those arrays held whole, one by one. -/
theorem hbmPts0_eq (c : Dev nD) :
    (bigSep H0 (fun b => ((c : Thread nD τ).loc b) ↦{fullShare} V m c b) : sProp 𝕄) = iprop(hbPt0 c hbM0_0 (V m c main_arg1)) := by
  rw [BI.bigSep_eq_bigSepL_of_eq [main_arg1] (by decide) (by decide)]; rfl

/-- What the launch hands the kernel, one by one: scratch, register, semaphores, the token array. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ iprop(semVal ((c : Thread nD τ), SemLoc.dma 15) 0 ∗ semVal ((c : Thread nD τ), SemLoc.dma 16) 0) ∗ iprop(hbPt0 c hbM0_0 (V m c main_arg1))) := by
  rw [Pipeline.ΦD_eq, scopedRest0_eq, ownSems00_eq, hbmPts0_eq]; simp only [scM0_0, scM0_1, scM0_2, scM0_3, scM0_4, owns_whole]; try rfl

instance : NeZero grid0.N := ⟨by rw [N_0]; decide⟩
/-- A slot lies inside the scratch. -/
theorem inb_slot0_0 (s : Fin 2) : ∀ a, (![s.val, 0, 0] : Fin 3 → Nat) a + S1x2048x512.size a ≤ S2x2048x512.size a := by
  have := s.isLt; intro a; fin_cases a <;> simp <;> omega
/-- A block lies inside the token array. -/
theorem inb_src0_0 (b : Fin 16) : ∀ a, (![2048 * b.val, 0] : Fin 2 → Nat) a + S2048x512.size a ≤ S32768x512.size a := by
  have := b.isLt; intro a; fin_cases a <;> simp <;> omega
/-- A semaphore cell lies inside the semaphore array. -/
theorem inb_cell0_0 (s : Fin 2) : ∀ a, (![s.val] : Fin 1 → Nat) a + S1.size a ≤ S2.size a := by
  have := s.isLt; intro a; fin_cases a <;> simp <;> omega
/-- Slot `s` of the scratch. -/
def rslot0_0 (s : Fin 2) : Memref sig .tc .vmem S2048x512 .f32 :=
  (scM0_0.slice (Rect.unit (s := S2x2048x512) ![s.val, 0, 0] S1x2048x512.size (inb_slot0_0 s)) (fun _ => rfl)).squeeze S2048x512 squeezes_S1x2048x512_S2048x512
/-- Block `b` of the token array: rows `2048 b` to `2048 b + 2047`. -/
def srcB0_0 (b : Fin 16) : Memref sig .tc .hbm S2048x512 .f32 :=
  hbM0_0.slice (Rect.unit (s := S32768x512) ![2048 * b.val, 0] S2048x512.size (inb_src0_0 b)) (fun _ => rfl)
/-- Semaphore cell `s`. -/
def cellA0_0 (s : Fin 2) : DmaSems sig S_ := (cc0_scratch1.slice (Rect.unit (s := S2) ![s.val] S1.size (inb_cell0_0 s))).squeeze S_ squeezes_S1_S_
/-- Its location. -/
abbrev cellR0_0 (s : Fin 2) : SemLoc sig := SemLoc.dma (cellA0_0 s).sem
theorem cellR0_0_0 : cellR0_0 0 = SemLoc.dma 15 := by decide
theorem cellR0_0_1 : cellR0_0 1 = SemLoc.dma 16 := by decide

section Ring0_0
variable (c : Dev nD) (W : HbBuf0 (F := F) c hbM0_0)
/-- Each slot's copies borrow one half of the token array's read share. -/
abbrev qs0_0 (s : Fin 2) : PosShare TreeShare := if s.val = 0 then fullShare.left else fullShare.right
/-- Slot `s` held at contents `f`. -/
abbrev slotP0_0 (s : Fin 2) (f : HbBuf0 (F := F) c (rslot0_0 s)) : sProp 𝕄 := (rslot0_0 s).view.loc (c : Thread nD τ) ↦[(rslot0_0 s).view.set]{fullShare} f
/-- Cell `s` at zero. -/
abbrev cellP0_0 (s : Fin 2) : sProp 𝕄 := semVal ((c : Thread nD τ), cellR0_0 s) 0
/-- Block `b` of the token array, held at slot `s`'s share. -/
abbrev srcP0_0 (s : Fin 2) (b : Fin 16) : sProp 𝕄 := (srcB0_0 b).view.loc (c : Thread nD τ) ↦[(srcB0_0 b).view.set]{qs0_0 s} W
/-- The rest of the token array at that share. -/
def restP0_0 (s : Fin 2) (b : Fin 16) : sProp 𝕄 := ((c : Thread nD τ).loc main_arg1) ↦[Finset.univ \ (srcB0_0 b).view.set]{qs0_0 s} W
/-- The whole token array at that share. -/
abbrev wholeP0_0 (s : Fin 2) : sProp 𝕄 := ((c : Thread nD τ).loc main_arg1) ↦[Finset.univ]{qs0_0 s} W
/-- Slot `s` after block `b` was copied into it over `f`. -/
abbrev landed0_0 (s : Fin 2) (b : Fin 16) (f : HbBuf0 (F := F) c (rslot0_0 s)) : HbBuf0 (F := F) c (rslot0_0 s) :=
  (rslot0_0 s).view.writes (Elt F) f [⟨Rect.whole S2048x512, ReadAs.same.apply ((srcB0_0 b).view.read (Elt F) W)⟩]
/-- Block `b` on its way into slot `s`. -/
abbrev flightP0_0 (s : Fin 2) (b : Fin 16) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- A slot at rest carries its share of the token array. -/
abbrev slotW0_0 (s : Fin 2) (f : HbBuf0 (F := F) c (rslot0_0 s)) : sProp 𝕄 := iprop(slotP0_0 c s f ∗ wholeP0_0 c W s)
/-- A copy under way, with the rest of the token array at that share. -/
abbrev flightW0_0 (s : Fin 2) (b : Fin 16) (f : HbBuf0 (F := F) c (rslot0_0 s)) : sProp 𝕄 := iprop(flightP0_0 c W s b f ∗ restP0_0 c W s b)
/-- No block is held apart. -/
abbrev noHome0_0 (b : Fin 16) : sProp 𝕄 := iprop(emp)
/-- The two slots before point `k`: both free before the first; later block `k` under way into one, block `k - 1` still readable in the other. -/
def ringAt0_0 (k : ℕ) : sProp 𝕄 :=
  if k = 0 then Ring.At₀ (cellP0_0 c) (slotW0_0 c W) noHome0_0
  else Ring.AtK 1 (cellP0_0 c) (slotW0_0 c W) noHome0_0 (flightW0_0 c W) (landed0_0 c W) k
omit [FloatOps F] in
theorem cellP0_0_0 : cellP0_0 (F := F) c 0 = semVal ((c : Thread nD τ), SemLoc.dma 15) 0 := congrArg (fun x => (semVal ((c : Thread nD τ), x) 0 : sProp 𝕄)) cellR0_0_0
omit [FloatOps F] in
theorem cellP0_0_1 : cellP0_0 (F := F) c 1 = semVal ((c : Thread nD τ), SemLoc.dma 16) 0 := congrArg (fun x => (semVal ((c : Thread nD τ), x) 0 : sProp 𝕄)) cellR0_0_1
end Ring0_0

/-- The elements of slot `s`. -/
abbrev slotSet0_0 (s : Fin 2) : Finset S2x2048x512.Idx := (Rect.unit (s := S2x2048x512) ![s.val, 0, 0] S1x2048x512.size (inb_slot0_0 s)).set
theorem slotSet0_0_eq (s : Fin 2) : (rslot0_0 s).view.set = slotSet0_0 s := by
  simp only [rslot0_0, Memref.view_squeeze, View.set_reshape]; exact View.set_slice_whole _ _
/-- The two slots are disjoint. -/
theorem slots0_0_disjoint (s s' : Fin 2) (h : s ≠ s') : Disjoint (slotSet0_0 s) (slotSet0_0 s') :=
  Ring.lead_disjoint (s := S2x2048x512) (0 : Fin 3) 1 (fun s : Fin 2 => (![s.val, 0, 0] : Fin 3 → Nat)) S1x2048x512.size inb_slot0_0 (fun s => by simp) rfl s s' h
/-- The two slots fill the scratch. -/
theorem slots0_0_cover : Finset.univ.biUnion slotSet0_0 = Finset.univ :=
  Ring.lead_cover (s := S2x2048x512) (0 : Fin 3) 1 (fun s : Fin 2 => (![s.val, 0, 0] : Fin 3 → Nat)) S1x2048x512.size inb_slot0_0 (fun s => by simp)
    (fun s a ha => by fin_cases a <;> first | exact absurd rfl ha | rfl) rfl (fun a ha => by fin_cases a <;> first | exact absurd rfl ha | rfl) rfl

section InOut0_0
variable (c : Dev nD) (W : HbBuf0 (F := F) c hbM0_0)
theorem slotP0_0_eq (s : Fin 2) (f) : slotP0_0 (F := F) c s f = (((c : Thread nD τ).loc cc0_scratch0) ↦[slotSet0_0 s]{fullShare} f : sProp 𝕄) := by
  unfold slotP0_0; rw [slotSet0_0_eq]; rfl
/-- The whole token array is a block and the rest. -/
theorem src0_0_split (s : Fin 2) (b : Fin 16) : wholeP0_0 (F := F) c W s ⊣⊢ iprop(srcP0_0 c W s b ∗ restP0_0 c W s b) := by
  unfold restP0_0; exact pointsTo_split_subset (Finset.subset_univ _)
/-- The token array at the full share is its two halves. -/
theorem whole0_0_split : (hbPt0 c hbM0_0 W : sProp 𝕄) ⊣⊢ iprop(wholeP0_0 c W 0 ∗ wholeP0_0 c W 1) :=
  pointsTo_share (PosShare.mem_left_op_right fullShare)
set_option maxHeartbeats 1000000 in
/-- The scratch is its two slots. -/
theorem slots0_0_in : iprop(∃ d, owns (c : Thread nD τ) scM0_0 fullShare d) ⊢ (iprop((∃ f, slotP0_0 (F := F) c 0 f) ∗ ∃ f, slotP0_0 (F := F) c 1 f) : sProp 𝕄) := by
  simp only [scM0_0, owns_whole]
  exact Ring.slots2_split (U := Pipeline.UD sig nD τ) (ℓ := (c : Thread nD τ).loc cc0_scratch0) (q := fullShare) slotSet0_0 slots0_0_disjoint slots0_0_cover
    (slotP0_0 c 0) (slotP0_0 c 1) (slotP0_0_eq c 0) (slotP0_0_eq c 1)
set_option maxHeartbeats 1000000 in
/-- The two slots make the scratch. -/
theorem slots0_0_out : (iprop((∃ f, slotP0_0 (F := F) c 0 f) ∗ ∃ f, slotP0_0 (F := F) c 1 f) : sProp 𝕄) ⊢ iprop(∃ d, owns (c : Thread nD τ) scM0_0 fullShare d) := by
  simp only [scM0_0, owns_whole]
  exact Ring.slots2_join (U := Pipeline.UD sig nD τ) (ℓ := (c : Thread nD τ).loc cc0_scratch0) (q := fullShare) slotSet0_0 slots0_0_disjoint slots0_0_cover
    (slotP0_0 c 0) (slotP0_0 c 1) (slotP0_0_eq c 0) (slotP0_0_eq c 1)
end InOut0_0

/-- What the launch hands over gives the slots before the first point. -/
theorem ring0_0_in (c : Dev nD) :
    iprop((∃ d, owns (c : Thread nD τ) scM0_0 fullShare d) ∗ (semVal ((c : Thread nD τ), SemLoc.dma 15) 0 ∗ semVal ((c : Thread nD τ), SemLoc.dma 16) 0) ∗ hbPt0 c hbM0_0 (V m c main_arg1))
      ⊢ ringAt0_0 c (V m c main_arg1) 0 := by
  unfold ringAt0_0; rw [if_pos rfl]; unfold Ring.At₀
  rw [Ring.bigSep_fin2]
  simp only [Ring.free, cellP0_0_0, cellP0_0_1]
  iintro ⟨HS, Hc, HW⟩
  iapply Ring.with_homes₀
  icases Hc with ⟨H0, H1⟩
  ihave HS' := (slots0_0_in (F := F) c) $$ HS
  icases HS' with ⟨⟨%d0, HS0⟩, ⟨%d1, HS1⟩⟩
  ihave HW' := (whole0_0_split (F := F) c (V m c main_arg1)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- After the last point the slots give it back. -/
theorem ring0_0_out (c : Dev nD) :
    ringAt0_0 c (V m c main_arg1) 16
      ⊢ iprop((∃ d, owns (c : Thread nD τ) scM0_0 fullShare d) ∗ (semVal ((c : Thread nD τ), SemLoc.dma 15) 0 ∗ semVal ((c : Thread nD τ), SemLoc.dma 16) 0) ∗ hbPt0 c hbM0_0 (V m c main_arg1)) := by
  unfold ringAt0_0; rw [if_neg (by decide)]
  iintro H
  ihave H' := (Ring.free2_of_AtK_last _ _ _ _ _) $$ H
  simp only [Ring.free, cellP0_0_0, cellP0_0_1]
  icases H' with ⟨-, ⟨H0, ⟨%f0, HS0, HW0⟩⟩, ⟨H1, ⟨%f1, HS1, HW1⟩⟩⟩
  isplitl [HS0 HS1]
  · iapply (slots0_0_out (F := F) c); isplitl [HS0]; · iexists f0; iexact HS0
    iexists f1; iexact HS1
  isplitl [H0 H1]
  · isplitl [H0]; · iexact H0
    iexact H1
  · iapply (whole0_0_split (F := F) c (V m c main_arg1)).2; isplitl [HW0]; · iexact HW0
    iexact HW1

section Canon0_0
omit [FloatOps F]
/-- The first point takes the first step. -/
theorem rstep0_0_A : ∀ t : Fin grid0.N, cond0_0 (grid0.coords t) → cond0_1 (grid0.coords t) → cond0_2 (grid0.coords t) → ¬cond0_3 (grid0.coords t) → t.val = 0 ∧ (t.val + 1) = 1 := by decide +kernel
/-- A middle point takes a step and starts a copy. -/
theorem rstep0_0_B : ∀ t : Fin grid0.N, ¬cond0_0 (grid0.coords t) → ¬cond0_1 (grid0.coords t) → cond0_2 (grid0.coords t) → ¬cond0_3 (grid0.coords t) → 1 ≤ t.val ∧ t.val + 1 < 16 ∧ (t.val + 1) = t.val + 1 := by decide +kernel
/-- The last point takes the last step. -/
theorem rstep0_0_C : ∀ t : Fin grid0.N, ¬cond0_0 (grid0.coords t) → ¬cond0_1 (grid0.coords t) → ¬cond0_2 (grid0.coords t) → cond0_3 (grid0.coords t) → 1 ≤ t.val ∧ t.val + 1 = 16 ∧ (t.val + 1) = t.val + 1 := by decide +kernel
set_option synthInstance.maxSize 4096 in
theorem coff0_0_1 : ∀ t : Fin grid0.N, cond0_0 (grid0.coords t) → cond0_1 (grid0.coords t) → cond0_2 (grid0.coords t) → ¬cond0_3 (grid0.coords t) → (![0, 0, 0] : Fin 3 → Nat) = ![(Ring.sl 2 t.val).val, 0, 0] := by decide +kernel
@[sl_canon] theorem canon0_0_1 (t : Fin grid0.N) (h0 : cond0_0 (grid0.coords t)) (h1 : cond0_1 (grid0.coords t)) (h2 : cond0_2 (grid0.coords t)) (h3 : ¬cond0_3 (grid0.coords t)) :
    (scM0_0.slice (Rect.unit (s := S2x2048x512) ![0, 0, 0] S1x2048x512.size inb_S2x2048x512_S1x2048x512_0_0_0) (fun _ => rfl)).squeeze S2048x512 squeezes_S1x2048x512_S2048x512 = rslot0_0 (Ring.sl 2 t.val) :=
  congrArg (fun M : Memref sig .tc .vmem S1x2048x512 .f32 => M.squeeze S2048x512 squeezes_S1x2048x512_S2048x512) (Memref.slice_unit_congr _ (coff0_0_1 t h0 h1 h2 h3) _ _ (fun _ => rfl) (fun _ => rfl))
set_option synthInstance.maxSize 4096 in
theorem coff0_0_2 : ∀ t : Fin grid0.N, cond0_0 (grid0.coords t) → cond0_1 (grid0.coords t) → cond0_2 (grid0.coords t) → ¬cond0_3 (grid0.coords t) → (![0] : Fin 1 → Nat) = ![(Ring.sl 2 t.val).val] := by decide +kernel
@[sl_canon] theorem canon0_0_2 (t : Fin grid0.N) (h0 : cond0_0 (grid0.coords t)) (h1 : cond0_1 (grid0.coords t)) (h2 : cond0_2 (grid0.coords t)) (h3 : ¬cond0_3 (grid0.coords t)) :
    (cc0_scratch1.slice (Rect.unit (s := S2) ![0] S1.size inb_S2_S1_0)).squeeze S_ squeezes_S1_S_ = cellA0_0 (Ring.sl 2 t.val) :=
  congrArg (fun A : DmaSems sig S1 => A.squeeze S_ squeezes_S1_S_) (SemArray.slice_unit_congr _ (coff0_0_2 t h0 h1 h2 h3) _ _)
set_option synthInstance.maxSize 4096 in
theorem coff0_0_3 : ∀ t : Fin grid0.N, cond0_0 (grid0.coords t) → cond0_1 (grid0.coords t) → cond0_2 (grid0.coords t) → ¬cond0_3 (grid0.coords t) → (![0, 0] : Fin 2 → Nat) = ![2048 * (Ring.bk 16 t.val).val, 0] := by decide +kernel
@[sl_canon] theorem canon0_0_3 (t : Fin grid0.N) (h0 : cond0_0 (grid0.coords t)) (h1 : cond0_1 (grid0.coords t)) (h2 : cond0_2 (grid0.coords t)) (h3 : ¬cond0_3 (grid0.coords t)) :
    hbM0_0.slice (Rect.unit (s := S32768x512) ![0, 0] S2048x512.size inb_S32768x512_S2048x512_0_0) (fun _ => rfl) = srcB0_0 (Ring.bk 16 t.val) :=
  congrArg (fun M : Memref sig .tc .hbm S2048x512 .f32 => M) (Memref.slice_unit_congr _ (coff0_0_3 t h0 h1 h2 h3) _ _ (fun _ => rfl) (fun _ => rfl))
set_option synthInstance.maxSize 4096 in
theorem coff0_0_4 : ∀ t : Fin grid0.N, k0_off2 (grid0.coords t) = ![(Ring.sl 2 t.val).val, 0, 0] := by decide +kernel
@[sl_canon] theorem canon0_0_4 (t : Fin grid0.N) :
    (scM0_0.slice (Rect.unit (s := S2x2048x512) (k0_off2 (grid0.coords t)) S1x2048x512.size (k0_off2_inb (grid0.coords t))) (fun _ => rfl)).squeeze S2048x512 squeezes_S1x2048x512_S2048x512 = rslot0_0 (Ring.sl 2 t.val) :=
  congrArg (fun M : Memref sig .tc .vmem S1x2048x512 .f32 => M.squeeze S2048x512 squeezes_S1x2048x512_S2048x512) (Memref.slice_unit_congr _ (coff0_0_4 t ) _ _ (fun _ => rfl) (fun _ => rfl))
set_option synthInstance.maxSize 4096 in
theorem coff0_0_5 : ∀ t : Fin grid0.N, k0_off1 (grid0.coords t) = ![(Ring.sl 2 t.val).val] := by decide +kernel
@[sl_canon] theorem canon0_0_5 (t : Fin grid0.N) :
    (cc0_scratch1.slice (Rect.unit (s := S2) (k0_off1 (grid0.coords t)) S1.size (k0_off1_inb (grid0.coords t)))).squeeze S_ squeezes_S1_S_ = cellA0_0 (Ring.sl 2 t.val) :=
  congrArg (fun A : DmaSems sig S1 => A.squeeze S_ squeezes_S1_S_) (SemArray.slice_unit_congr _ (coff0_0_5 t ) _ _)
set_option synthInstance.maxSize 4096 in
theorem coff0_0_6 : ∀ t : Fin grid0.N, k0_off5 (grid0.coords t) = ![(Ring.sl 2 (t.val + 1)).val, 0, 0] := by decide +kernel
@[sl_canon] theorem canon0_0_6 (t : Fin grid0.N) (h2 : cond0_2 (grid0.coords t)) :
    (scM0_0.slice (Rect.unit (s := S2x2048x512) (k0_off5 (grid0.coords t)) S1x2048x512.size (k0_off5_inb (grid0.coords t) h2)) (fun _ => rfl)).squeeze S2048x512 squeezes_S1x2048x512_S2048x512 = rslot0_0 (Ring.sl 2 (t.val + 1)) :=
  congrArg (fun M : Memref sig .tc .vmem S1x2048x512 .f32 => M.squeeze S2048x512 squeezes_S1x2048x512_S2048x512) (Memref.slice_unit_congr _ (coff0_0_6 t ) _ _ (fun _ => rfl) (fun _ => rfl))
set_option synthInstance.maxSize 4096 in
theorem coff0_0_7 : ∀ t : Fin grid0.N, k0_off4 (grid0.coords t) = ![(Ring.sl 2 (t.val + 1)).val] := by decide +kernel
@[sl_canon] theorem canon0_0_7 (t : Fin grid0.N) (h2 : cond0_2 (grid0.coords t)) :
    (cc0_scratch1.slice (Rect.unit (s := S2) (k0_off4 (grid0.coords t)) S1.size (k0_off4_inb (grid0.coords t) h2))).squeeze S_ squeezes_S1_S_ = cellA0_0 (Ring.sl 2 (t.val + 1)) :=
  congrArg (fun A : DmaSems sig S1 => A.squeeze S_ squeezes_S1_S_) (SemArray.slice_unit_congr _ (coff0_0_7 t ) _ _)
set_option synthInstance.maxSize 4096 in
theorem coff0_0_8 : ∀ t : Fin grid0.N, cond0_0 (grid0.coords t) → cond0_1 (grid0.coords t) → cond0_2 (grid0.coords t) → ¬cond0_3 (grid0.coords t) → k0_off6 (grid0.coords t) = ![2048 * (Ring.bk 16 (t.val + 1)).val, 0] := by decide +kernel
@[sl_canon] theorem canon0_0_8 (t : Fin grid0.N) (h0 : cond0_0 (grid0.coords t)) (h1 : cond0_1 (grid0.coords t)) (h2 : cond0_2 (grid0.coords t)) (h3 : ¬cond0_3 (grid0.coords t)) :
    hbM0_0.slice (Rect.unit (s := S32768x512) (k0_off6 (grid0.coords t)) S2048x512.size (k0_off6_inb (grid0.coords t) h2)) (fun _ => rfl) = srcB0_0 (Ring.bk 16 (t.val + 1)) :=
  congrArg (fun M : Memref sig .tc .hbm S2048x512 .f32 => M) (Memref.slice_unit_congr _ (coff0_0_8 t h0 h1 h2 h3) _ _ (fun _ => rfl) (fun _ => rfl))
set_option synthInstance.maxSize 4096 in
theorem coff0_0_9 : ∀ t : Fin grid0.N, ¬cond0_0 (grid0.coords t) → ¬cond0_1 (grid0.coords t) → cond0_2 (grid0.coords t) → ¬cond0_3 (grid0.coords t) → k0_off6 (grid0.coords t) = ![2048 * (Ring.bk 16 (t.val + 1)).val, 0] := by decide +kernel
@[sl_canon] theorem canon0_0_9 (t : Fin grid0.N) (h0 : ¬cond0_0 (grid0.coords t)) (h1 : ¬cond0_1 (grid0.coords t)) (h2 : cond0_2 (grid0.coords t)) (h3 : ¬cond0_3 (grid0.coords t)) :
    hbM0_0.slice (Rect.unit (s := S32768x512) (k0_off6 (grid0.coords t)) S2048x512.size (k0_off6_inb (grid0.coords t) h2)) (fun _ => rfl) = srcB0_0 (Ring.bk 16 (t.val + 1)) :=
  congrArg (fun M : Memref sig .tc .hbm S2048x512 .f32 => M) (Memref.slice_unit_congr _ (coff0_0_9 t h0 h1 h2 h3) _ _ (fun _ => rfl) (fun _ => rfl))
set_option synthInstance.maxSize 4096 in
theorem coff0_0_10 : ∀ t : Fin grid0.N, k0_off7 (grid0.coords t) = ![(Ring.sl 2 t.val).val, 0, 0] := by decide +kernel
instance (priority := high) closedOff0_0_10 (t : Fin grid0.N) : ClosedOff (k0_off7 (grid0.coords t)) := ⟨![(Ring.sl 2 t.val).val, 0, 0], coff0_0_10 t⟩
end Canon0_0

end Cert.KernelIdeal.Run

end
-- ==== Proof.Step.lean ====
module

public import proofs.«01_k».proof.Proof.RingKit

/-! One grid point of the kernel as a function of what it reads: its block of tokens and segment ids, the weights, and
    the scratch the points before left. -/

@[expose] public section

set_option maxRecDepth 16384

noncomputable section

namespace Cert.KernelIdeal.Run

open Cert.KernelIdeal.Gen
open Idealize.ShloMosaic Idealize.ShloMosaic.TcCoe

variable {F : FTy → Type} [FloatOps F]

/-- The segments' part of the first layer, computed at the first point. -/
abbrev sb0 (x1 : Vec F S16x2560 .f32) (x3 : Vec F S2560x512 .f32) (x4 : Vec F S1x512 .f32) : Vec F S16x512 .bf16 :=
  k0_pay6 x1 x3 x4

/-- Block `b` of the tokens, as the kernel reads it from its slot. -/
def xblk (c : Dev nD) (W : HbBuf0 (F := F) c hbM0_0) (b : Fin 16) : Vec F S1x2048x512 .f32 :=
  shapeCast S1x2048x512 ((srcB0_0 b).view.read (Elt F) W) (by decide)

section
variable (xb : Vec F S1x2048x512 .f32) (x0 : Vec F S1x2048x1 .i32) (x2 : Vec F S512x512 .bf16) (x5 : Vec F S512x512 .bf16)
  (x6 : Vec F S1x512 .f32) (x7 : Vec F S512x16 .f32) (x8 : Vec F S1x1 .f32) (sb : Vec F S16x512 .bf16) (mm : Vec F S1x16 .f32)

/-- The running maxima after a point. -/
abbrev stepM : Vec F S1x16 .f32 :=
  k0_pay17 (k0_pay10 xb) (k0_pay11 x0) (k0_pay12 x0) (k0_pay13 x2) (constant S2048x512 .f32 0x00000000#32) sb x5 x6 x7 x8 mm

/-- The running sums after a point. -/
abbrev stepS (ss : Vec F S1x16 .f32) : Vec F S1x16 .f32 :=
  k0_pay2 (k0_pay11 x0)
    (k0_pay16 (k0_pay10 xb) (k0_pay11 x0) (k0_pay12 x0) (k0_pay13 x2) (constant S2048x512 .f32 0x00000000#32) sb x5 x6 x7 x8 mm)
    (k0_pay18 (k0_pay10 xb) (k0_pay11 x0) (k0_pay12 x0) (k0_pay13 x2) (constant S2048x512 .f32 0x00000000#32) sb x5 x6 x7 x8 mm)
    (Scalar.ofBits .f32 0x00000000#32) ss

/-- The running weighted sums after a point. -/
abbrev stepA (ac : Vec F S16x512 .f32) : Vec F S16x512 .f32 :=
  k0_pay4 (k0_pay10 xb) (k0_pay11 x0)
    (k0_pay16 (k0_pay10 xb) (k0_pay11 x0) (k0_pay12 x0) (k0_pay13 x2) (constant S2048x512 .f32 0x00000000#32) sb x5 x6 x7 x8 mm)
    (k0_pay18 (k0_pay10 xb) (k0_pay11 x0) (k0_pay12 x0) (k0_pay13 x2) (constant S2048x512 .f32 0x00000000#32) sb x5 x6 x7 x8 mm)
    (Scalar.ofBits .f32 0x00000000#32) ac
end

end Cert.KernelIdeal.Run

end
-- ==== Proof.Reads.lean ====
module

public import proofs.«01_k».proof.Proof.Step
public import Idealize.ShloMosaic.Lib.VecWindow
public import Idealize.ShloMosaic.Lib.WholeRead
public import Idealize.ShloMosaic.Lib.Pipeline.Value

/-! What a load from the slot a block of tokens has landed in reads. -/

@[expose] public section

set_option maxRecDepth 16384

noncomputable section

namespace Cert.KernelIdeal.Run

open Cert.KernelIdeal.Gen
open Idealize.ShloMosaic Idealize.ShloMosaic.TcCoe

variable {F : FTy → Type} [FloatOps F]

/-- A load of all of a memref held whole at the contents that read `X` reads `X`. -/
theorem ld_full {sp : Space} {s : Shape} {e : EltTy} {m : Memref sig .tc sp s e} (h : m.IsWhole) (X : s.Idx → Elt F e)
    {off : Fin s.rank → ℕ} (inb : ∀ a, off a + s.size a ≤ s.size a) :
    View.readAt (Elt F) m.view (Rect.unit off s.size inb).toLoadRect (h.unread X) = X :=
  (View.readAt_full m.view _ inb).trans (h.read_unread X)

/-- A load of all of a memref just stored whole reads what was stored. -/
theorem cov_full {sp : Space} {s : Shape} {e : EltTy} (m : Memref sig .tc sp s e)
    {off off' : Fin s.rank → ℕ} (inb : ∀ a, off a + s.size a ≤ s.size a) (inb' : ∀ a, off' a + s.size a ≤ s.size a) (w : s.Idx → Elt F e) :
    m.view.readCov (Val := Elt F) [⟨Rect.unit off' s.size inb', w⟩] (Rect.unit off s.size inb).toLoadRect = w :=
  View.readCov_full (Val := Elt F) m.view inb inb' w []

/-- A load of the slot that block `b` of the tokens has landed in reads that block. -/
theorem slot_read (c : Dev nD) (W : HbBuf0 (F := F) c hbM0_0) (s : Fin 2) (b : Fin 16) (f : HbBuf0 (F := F) c (rslot0_0 s))
    (off : Fin 3 → ℕ) (h : off = ![s.val, 0, 0]) (inb : ∀ a, off a + S1x2048x512.size a ≤ S2x2048x512.size a) :
    View.readAt (Elt F) (View.whole cc0_scratch0) (Rect.unit (s := S2x2048x512) off S1x2048x512.size inb).toLoadRect (landed0_0 c W s b f)
      = xblk c W b := by
  subst h
  have h1 := View.read_writes_whole (Val := Elt F) (rslot0_0 s).view f (ReadAs.same.apply ((srcB0_0 b).view.read (Elt F) W))
  have h2 := Memref.read_squeeze_slice (Val := Elt F) scM0_0 (Rect.unit (s := S2x2048x512) ![s.val, 0, 0] S1x2048x512.size inb) (fun _ => rfl)
    squeezes_S1x2048x512_S2048x512 (show S1x2048x512.ShapeCasts S2048x512 by decide) (landed0_0 c W s b f)
  have h3 := h2.symm.trans h1
  unfold xblk
  refine Eq.trans ?_ (congrArg (fun y => shapeCast S1x2048x512 y (by decide)) h3)
  exact (shapeCast_shapeCast _ _ _).symm

end Cert.KernelIdeal.Run

end
-- ==== Proof.RunA.lean ====
module

public import proofs.«01_k».proof.Proof.Reads

/-! The kernel body at the first grid point. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1600000 in
/-- The kernel body at the first point: whatever the scratch held, it starts the first two copies, waits for the first block,
    and ends with the segments' part `sb0` and the running maxima, sums and weighted sums one step from their start. -/
theorem runA (c : Dev nD) (t : Fin cfg0.N) (arg1 : Memref sig .tc .vmem S1x2048x1 .i32) (harg1 : arg1.IsWhole) (arg3 : Memref sig .tc .vmem S16x2560 .f32) (harg3 : arg3.IsWhole) (arg4 : Memref sig .tc .vmem S512x512 .bf16) (harg4 : arg4.IsWhole) (arg5 : Memref sig .tc .vmem S2560x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x16 .f32) (harg9 : arg9.IsWhole) (arg10 : Memref sig .tc .vmem S1x1 .f32) (harg10 : arg10.IsWhole) (arg11 : Memref sig .tc .vmem S512x512 .f32) (harg11 : arg11.IsWhole) (arg12 : Memref sig .tc .vmem S1x512 .f32) (harg12 : arg12.IsWhole) (arg13 : Memref sig .tc .vmem S512x2 .f32) (harg13 : arg13.IsWhole) (arg14 : Memref sig .tc .vmem S1x2 .f32) (harg14 : arg14.IsWhole) (arg15 : Memref sig .tc .vmem S16x2 .f32) (harg15 : arg15.IsWhole) (arg18 : Memref sig .tc .vmem S16x512 .bf16) (harg18 : arg18.IsWhole) (arg19 : Memref sig .tc .vmem S1x16 .f32) (harg19 : arg19.IsWhole) (arg20 : Memref sig .tc .vmem S1x16 .f32) (harg20 : arg20.IsWhole) (arg21 : Memref sig .tc .vmem S16x512 .f32) (harg21 : arg21.IsWhole) (hc0 : cond0_0 (grid0.coords t)) (hc1 : cond0_1 (grid0.coords t)) (hc2 : cond0_2 (grid0.coords t)) (hc3 : ¬cond0_3 (grid0.coords t))
    (x0 : Vec F S1x2048x1 .i32) (x1 : Vec F S16x2560 .f32) (x2 : Vec F S512x512 .bf16) (x3 : Vec F S2560x512 .f32) (x4 : Vec F S1x512 .f32) (x5 : Vec F S512x512 .bf16) (x6 : Vec F S1x512 .f32) (x7 : Vec F S512x16 .f32) (x8 : Vec F S1x1 .f32) (x9 : Vec F S512x512 .f32) (x10 : Vec F S1x512 .f32) (x11 : Vec F S512x2 .f32) (x12 : Vec F S1x2 .f32) (fh0 : HbBuf0 (F := F) c hbM0_0) (xo : Vec F S16x2 .f32) :
      ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xo ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ Ring.free (cellP0_0 c) (slotW0_0 c fh0) (Ring.sl 2 t.val) ∗ Ring.free (cellP0_0 c) (slotW0_0 c fh0) (Ring.sl 2 (t.val + 1)) ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xo ∗ owns (c : Thread nD τ) arg18 fullShare (sb0 x1 x3 x4) ∗ owns (c : Thread nD τ) arg19 fullShare (stepM (xblk c fh0 (Ring.bk 16 t.val)) x0 x2 x5 x6 x7 x8 (sb0 x1 x3 x4) (k0_pay7 (F := F))) ∗ owns (c : Thread nD τ) arg20 fullShare (stepS (xblk c fh0 (Ring.bk 16 t.val)) x0 x2 x5 x6 x7 x8 (sb0 x1 x3 x4) (k0_pay7 (F := F)) (k0_pay8 (F := F))) ∗ owns (c : Thread nD τ) arg21 fullShare (stepA (xblk c fh0 (Ring.bk 16 t.val)) x0 x2 x5 x6 x7 x8 (sb0 x1 x3 x4) (k0_pay7 (F := F)) (k0_pay9 (F := F))) ∗ Ring.inflight (flightW0_0 c fh0) (Ring.sl 2 (t.val + 1)) (Ring.bk 16 (t.val + 1)) ∗ Ring.kept (cellP0_0 c) (slotW0_0 c fh0) (landed0_0 c fh0) (Ring.sl 2 t.val) (Ring.bk 16 t.val) ∗ (∃ W', owes (c : Thread nD τ) 0 W')) -∗ K ⟨⟩))
          ⊢ wp frame (wpE (defs₀ (F := F)) Variants.none c none) Set.univ (cc0__fused_kernel (grid0.coords t) arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 scM0_0 (Memref.isWhole_whole _) cc0_scratch1 arg18 harg18 arg19 harg19 arg20 harg20 arg21 harg21) K := by
    intro W K
    haveI : Fact (cond0_0 (grid0.coords t)) := ⟨hc0⟩
    haveI : Fact (cond0_1 (grid0.coords t)) := ⟨hc1⟩
    haveI : Fact (cond0_2 (grid0.coords t)) := ⟨hc2⟩
    haveI : Fact (¬cond0_3 (grid0.coords t)) := ⟨hc3⟩
    simp only [cc0__fused_kernel_eq_skeleton]; unfold cc0__fused_kernel_skel
    simp only [k0_part1_eq_skeleton, k0_part2_eq_skeleton]
    have hcanon0 := canon0_0_1 t hc0 hc1 hc2 hc3
    have hcanon1 := canon0_0_2 t hc0 hc1 hc2 hc3
    have hcanon2 := canon0_0_3 t hc0 hc1 hc2 hc3
    unfold owns Ring.free Ring.inflight Ring.kept
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%ds1, %fs1, -, HS1⟩, ⟨%ds2, %fs2, -, HS2⟩, ⟨%ds3, %fs3, -, HS3⟩, ⟨%ds4, %fs4, -, HS4⟩, ⟨Hc0_0_0, ⟨%fs0_0_0, Hs0_0_0, Hw0_0_0⟩⟩, ⟨Hc0_0_1, ⟨%fs0_0_1, Hs0_0_1, Hw0_0_1⟩⟩, HW, Hk⟩
    ihave Hsp0_0_0 := (src0_0_split c fh0 (Ring.sl 2 t.val) (Ring.bk 16 t.val)).1 $$ Hw0_0_0
    icases Hsp0_0_0 with ⟨Hh0_0_0, Hr0_0_0⟩
    ihave Hsp0_0_1 := (src0_0_split c fh0 (Ring.sl 2 (t.val + 1)) (Ring.bk 16 (t.val + 1))).1 $$ Hw0_0_1
    icases Hsp0_0_1 with ⟨Hh0_0_1, Hr0_0_1⟩
    obtain rfl := harg1.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; swap; · iexact H13
      ipureintro; exact harg15.read_unread _
    isplitl [HS1]
    · iexists _; isplitr; swap; · iexact HS1
      ipureintro; refine (View.read_writes_full arg18.view _ inb_S16x512_S16x512_0_0 _ _).trans ?_
      sl_unfold_run_names
      have e1 := ld_full harg1 x0 inb_S1x2048x1_S1x2048x1_0_0_0
      have e4 := ld_full harg4 x2 inb_S512x512_S512x512_0_0
      have e7 := ld_full harg7 x5 inb_S512x512_S512x512_0_0
      have e8 := ld_full harg8 x6 inb_S1x512_S1x512_0_0
      have e9 := ld_full harg9 x7 inb_S512x16_S512x16_0_0
      have e10 := ld_full harg10 x8 inb_S1x1_S1x1_0_0
      have e2 := ld_full harg3 x1 inb_S16x2560_S16x2560_0_0
      have e5 := ld_full harg5 x3 inb_S2560x512_S2560x512_0_0
      have e6 := ld_full harg6 x4 inb_S1x512_S1x512_0_0
      have eX := fun inb f => slot_read c fh0 (Ring.sl 2 t.val) (Ring.bk 16 t.val) f _ (coff0_0_10 t) inb
      have c18 : ∀ w : Vec F S16x512 .bf16, arg18.view.readCov (Val := Elt F) [⟨Rect.unit (s := S16x512) ![0, 0] S16x512.size inb_S16x512_S16x512_0_0, w⟩] (Rect.unit (s := S16x512) ![0, 0] S16x512.size inb_S16x512_S16x512_0_0).toLoadRect = w :=
        fun w => cov_full arg18 inb_S16x512_S16x512_0_0 inb_S16x512_S16x512_0_0 w
      have c19 : ∀ w : Vec F S1x16 .f32, arg19.view.readCov (Val := Elt F) [⟨Rect.unit (s := S1x16) ![0, 0] S1x16.size inb_S1x16_S1x16_0_0, w⟩] (Rect.unit (s := S1x16) ![0, 0] S1x16.size inb_S1x16_S1x16_0_0).toLoadRect = w :=
        fun w => cov_full arg19 inb_S1x16_S1x16_0_0 inb_S1x16_S1x16_0_0 w
      have c20 : ∀ w : Vec F S1x16 .f32, arg20.view.readCov (Val := Elt F) [⟨Rect.unit (s := S1x16) ![0, 0] S1x16.size inb_S1x16_S1x16_0_0, w⟩] (Rect.unit (s := S1x16) ![0, 0] S1x16.size inb_S1x16_S1x16_0_0).toLoadRect = w :=
        fun w => cov_full arg20 inb_S1x16_S1x16_0_0 inb_S1x16_S1x16_0_0 w
      have c20' : ∀ w : Vec F S1x16 .f32, arg20.view.readCov (Val := Elt F) [⟨Rect.unit (s := S1x16) ![0, 0] S1x16.size inb_S1x16_S1x16_0_0, w⟩] (Rect.unit (s := S1x16) ![0, 0] ![1, 16] inb_S1x16_S1x16_0_0).toLoadRect = w :=
        fun w => cov_full arg20 inb_S1x16_S1x16_0_0 inb_S1x16_S1x16_0_0 w
      have c21' : ∀ w : Vec F S16x512 .f32, arg21.view.readCov (Val := Elt F) [⟨Rect.unit (s := S16x512) ![0, 0] S16x512.size inb_S16x512_S16x512_0_0, w⟩] (Rect.unit (s := S16x512) ![0, 0] ![16, 512] inb_S16x512_S16x512_0_0).toLoadRect = w :=
        fun w => cov_full arg21 inb_S16x512_S16x512_0_0 inb_S16x512_S16x512_0_0 w
      have c21 : ∀ w : Vec F S16x512 .f32, arg21.view.readCov (Val := Elt F) [⟨Rect.unit (s := S16x512) ![0, 0] S16x512.size inb_S16x512_S16x512_0_0, w⟩] (Rect.unit (s := S16x512) ![0, 0] S16x512.size inb_S16x512_S16x512_0_0).toLoadRect = w :=
        fun w => cov_full arg21 inb_S16x512_S16x512_0_0 inb_S16x512_S16x512_0_0 w
      simp only [c21, c21', c20', c20, c19, c18, e1, e4, e7, e8, e9, e10, e2, e5, e6, eX]
    isplitl [HS2]
    · iexists _; isplitr; swap; · iexact HS2
      ipureintro; refine (View.read_writes_full arg19.view _ inb_S1x16_S1x16_0_0 _ _).trans ?_
      sl_unfold_run_names
      have e1 := ld_full harg1 x0 inb_S1x2048x1_S1x2048x1_0_0_0
      have e4 := ld_full harg4 x2 inb_S512x512_S512x512_0_0
      have e7 := ld_full harg7 x5 inb_S512x512_S512x512_0_0
      have e8 := ld_full harg8 x6 inb_S1x512_S1x512_0_0
      have e9 := ld_full harg9 x7 inb_S512x16_S512x16_0_0
      have e10 := ld_full harg10 x8 inb_S1x1_S1x1_0_0
      have e2 := ld_full harg3 x1 inb_S16x2560_S16x2560_0_0
      have e5 := ld_full harg5 x3 inb_S2560x512_S2560x512_0_0
      have e6 := ld_full harg6 x4 inb_S1x512_S1x512_0_0
      have eX := fun inb f => slot_read c fh0 (Ring.sl 2 t.val) (Ring.bk 16 t.val) f _ (coff0_0_10 t) inb
      have c18 : ∀ w : Vec F S16x512 .bf16, arg18.view.readCov (Val := Elt F) [⟨Rect.unit (s := S16x512) ![0, 0] S16x512.size inb_S16x512_S16x512_0_0, w⟩] (Rect.unit (s := S16x512) ![0, 0] S16x512.size inb_S16x512_S16x512_0_0).toLoadRect = w :=
        fun w => cov_full arg18 inb_S16x512_S16x512_0_0 inb_S16x512_S16x512_0_0 w
      have c19 : ∀ w : Vec F S1x16 .f32, arg19.view.readCov (Val := Elt F) [⟨Rect.unit (s := S1x16) ![0, 0] S1x16.size inb_S1x16_S1x16_0_0, w⟩] (Rect.unit (s := S1x16) ![0, 0] S1x16.size inb_S1x16_S1x16_0_0).toLoadRect = w :=
        fun w => cov_full arg19 inb_S1x16_S1x16_0_0 inb_S1x16_S1x16_0_0 w
      have c20 : ∀ w : Vec F S1x16 .f32, arg20.view.readCov (Val := Elt F) [⟨Rect.unit (s := S1x16) ![0, 0] S1x16.size inb_S1x16_S1x16_0_0, w⟩] (Rect.unit (s := S1x16) ![0, 0] S1x16.size inb_S1x16_S1x16_0_0).toLoadRect = w :=
        fun w => cov_full arg20 inb_S1x16_S1x16_0_0 inb_S1x16_S1x16_0_0 w
      have c20' : ∀ w : Vec F S1x16 .f32, arg20.view.readCov (Val := Elt F) [⟨Rect.unit (s := S1x16) ![0, 0] S1x16.size inb_S1x16_S1x16_0_0, w⟩] (Rect.unit (s := S1x16) ![0, 0] ![1, 16] inb_S1x16_S1x16_0_0).toLoadRect = w :=
        fun w => cov_full arg20 inb_S1x16_S1x16_0_0 inb_S1x16_S1x16_0_0 w
      have c21' : ∀ w : Vec F S16x512 .f32, arg21.view.readCov (Val := Elt F) [⟨Rect.unit (s := S16x512) ![0, 0] S16x512.size inb_S16x512_S16x512_0_0, w⟩] (Rect.unit (s := S16x512) ![0, 0] ![16, 512] inb_S16x512_S16x512_0_0).toLoadRect = w :=
        fun w => cov_full arg21 inb_S16x512_S16x512_0_0 inb_S16x512_S16x512_0_0 w
      have c21 : ∀ w : Vec F S16x512 .f32, arg21.view.readCov (Val := Elt F) [⟨Rect.unit (s := S16x512) ![0, 0] S16x512.size inb_S16x512_S16x512_0_0, w⟩] (Rect.unit (s := S16x512) ![0, 0] S16x512.size inb_S16x512_S16x512_0_0).toLoadRect = w :=
        fun w => cov_full arg21 inb_S16x512_S16x512_0_0 inb_S16x512_S16x512_0_0 w
      simp only [c21, c21', c20', c20, c19, c18, e1, e4, e7, e8, e9, e10, e2, e5, e6, eX]
    isplitl [HS3]
    · iexists _; isplitr; swap; · iexact HS3
      ipureintro; refine (View.read_writes_full arg20.view _ inb_S1x16_S1x16_0_0 _ _).trans ?_
      sl_unfold_run_names
      have e1 := ld_full harg1 x0 inb_S1x2048x1_S1x2048x1_0_0_0
      have e4 := ld_full harg4 x2 inb_S512x512_S512x512_0_0
      have e7 := ld_full harg7 x5 inb_S512x512_S512x512_0_0
      have e8 := ld_full harg8 x6 inb_S1x512_S1x512_0_0
      have e9 := ld_full harg9 x7 inb_S512x16_S512x16_0_0
      have e10 := ld_full harg10 x8 inb_S1x1_S1x1_0_0
      have e2 := ld_full harg3 x1 inb_S16x2560_S16x2560_0_0
      have e5 := ld_full harg5 x3 inb_S2560x512_S2560x512_0_0
      have e6 := ld_full harg6 x4 inb_S1x512_S1x512_0_0
      have eX := fun inb f => slot_read c fh0 (Ring.sl 2 t.val) (Ring.bk 16 t.val) f _ (coff0_0_10 t) inb
      have c18 : ∀ w : Vec F S16x512 .bf16, arg18.view.readCov (Val := Elt F) [⟨Rect.unit (s := S16x512) ![0, 0] S16x512.size inb_S16x512_S16x512_0_0, w⟩] (Rect.unit (s := S16x512) ![0, 0] S16x512.size inb_S16x512_S16x512_0_0).toLoadRect = w :=
        fun w => cov_full arg18 inb_S16x512_S16x512_0_0 inb_S16x512_S16x512_0_0 w
      have c19 : ∀ w : Vec F S1x16 .f32, arg19.view.readCov (Val := Elt F) [⟨Rect.unit (s := S1x16) ![0, 0] S1x16.size inb_S1x16_S1x16_0_0, w⟩] (Rect.unit (s := S1x16) ![0, 0] S1x16.size inb_S1x16_S1x16_0_0).toLoadRect = w :=
        fun w => cov_full arg19 inb_S1x16_S1x16_0_0 inb_S1x16_S1x16_0_0 w
      have c20 : ∀ w : Vec F S1x16 .f32, arg20.view.readCov (Val := Elt F) [⟨Rect.unit (s := S1x16) ![0, 0] S1x16.size inb_S1x16_S1x16_0_0, w⟩] (Rect.unit (s := S1x16) ![0, 0] S1x16.size inb_S1x16_S1x16_0_0).toLoadRect = w :=
        fun w => cov_full arg20 inb_S1x16_S1x16_0_0 inb_S1x16_S1x16_0_0 w
      have c20' : ∀ w : Vec F S1x16 .f32, arg20.view.readCov (Val := Elt F) [⟨Rect.unit (s := S1x16) ![0, 0] S1x16.size inb_S1x16_S1x16_0_0, w⟩] (Rect.unit (s := S1x16) ![0, 0] ![1, 16] inb_S1x16_S1x16_0_0).toLoadRect = w :=
        fun w => cov_full arg20 inb_S1x16_S1x16_0_0 inb_S1x16_S1x16_0_0 w
      have c21' : ∀ w : Vec F S16x512 .f32, arg21.view.readCov (Val := Elt F) [⟨Rect.unit (s := S16x512) ![0, 0] S16x512.size inb_S16x512_S16x512_0_0, w⟩] (Rect.unit (s := S16x512) ![0, 0] ![16, 512] inb_S16x512_S16x512_0_0).toLoadRect = w :=
        fun w => cov_full arg21 inb_S16x512_S16x512_0_0 inb_S16x512_S16x512_0_0 w
      have c21 : ∀ w : Vec F S16x512 .f32, arg21.view.readCov (Val := Elt F) [⟨Rect.unit (s := S16x512) ![0, 0] S16x512.size inb_S16x512_S16x512_0_0, w⟩] (Rect.unit (s := S16x512) ![0, 0] S16x512.size inb_S16x512_S16x512_0_0).toLoadRect = w :=
        fun w => cov_full arg21 inb_S16x512_S16x512_0_0 inb_S16x512_S16x512_0_0 w
      simp only [c21, c21', c20', c20, c19, c18, e1, e4, e7, e8, e9, e10, e2, e5, e6, eX]
    isplitl [HS4]
    · iexists _; isplitr; swap; · iexact HS4
      ipureintro; refine (View.read_writes_full arg21.view _ inb_S16x512_S16x512_0_0 _ _).trans ?_
      sl_unfold_run_names
      have e1 := ld_full harg1 x0 inb_S1x2048x1_S1x2048x1_0_0_0
      have e4 := ld_full harg4 x2 inb_S512x512_S512x512_0_0
      have e7 := ld_full harg7 x5 inb_S512x512_S512x512_0_0
      have e8 := ld_full harg8 x6 inb_S1x512_S1x512_0_0
      have e9 := ld_full harg9 x7 inb_S512x16_S512x16_0_0
      have e10 := ld_full harg10 x8 inb_S1x1_S1x1_0_0
      have e2 := ld_full harg3 x1 inb_S16x2560_S16x2560_0_0
      have e5 := ld_full harg5 x3 inb_S2560x512_S2560x512_0_0
      have e6 := ld_full harg6 x4 inb_S1x512_S1x512_0_0
      have eX := fun inb f => slot_read c fh0 (Ring.sl 2 t.val) (Ring.bk 16 t.val) f _ (coff0_0_10 t) inb
      have c18 : ∀ w : Vec F S16x512 .bf16, arg18.view.readCov (Val := Elt F) [⟨Rect.unit (s := S16x512) ![0, 0] S16x512.size inb_S16x512_S16x512_0_0, w⟩] (Rect.unit (s := S16x512) ![0, 0] S16x512.size inb_S16x512_S16x512_0_0).toLoadRect = w :=
        fun w => cov_full arg18 inb_S16x512_S16x512_0_0 inb_S16x512_S16x512_0_0 w
      have c19 : ∀ w : Vec F S1x16 .f32, arg19.view.readCov (Val := Elt F) [⟨Rect.unit (s := S1x16) ![0, 0] S1x16.size inb_S1x16_S1x16_0_0, w⟩] (Rect.unit (s := S1x16) ![0, 0] S1x16.size inb_S1x16_S1x16_0_0).toLoadRect = w :=
        fun w => cov_full arg19 inb_S1x16_S1x16_0_0 inb_S1x16_S1x16_0_0 w
      have c20 : ∀ w : Vec F S1x16 .f32, arg20.view.readCov (Val := Elt F) [⟨Rect.unit (s := S1x16) ![0, 0] S1x16.size inb_S1x16_S1x16_0_0, w⟩] (Rect.unit (s := S1x16) ![0, 0] S1x16.size inb_S1x16_S1x16_0_0).toLoadRect = w :=
        fun w => cov_full arg20 inb_S1x16_S1x16_0_0 inb_S1x16_S1x16_0_0 w
      have c20' : ∀ w : Vec F S1x16 .f32, arg20.view.readCov (Val := Elt F) [⟨Rect.unit (s := S1x16) ![0, 0] S1x16.size inb_S1x16_S1x16_0_0, w⟩] (Rect.unit (s := S1x16) ![0, 0] ![1, 16] inb_S1x16_S1x16_0_0).toLoadRect = w :=
        fun w => cov_full arg20 inb_S1x16_S1x16_0_0 inb_S1x16_S1x16_0_0 w
      have c21' : ∀ w : Vec F S16x512 .f32, arg21.view.readCov (Val := Elt F) [⟨Rect.unit (s := S16x512) ![0, 0] S16x512.size inb_S16x512_S16x512_0_0, w⟩] (Rect.unit (s := S16x512) ![0, 0] ![16, 512] inb_S16x512_S16x512_0_0).toLoadRect = w :=
        fun w => cov_full arg21 inb_S16x512_S16x512_0_0 inb_S16x512_S16x512_0_0 w
      have c21 : ∀ w : Vec F S16x512 .f32, arg21.view.readCov (Val := Elt F) [⟨Rect.unit (s := S16x512) ![0, 0] S16x512.size inb_S16x512_S16x512_0_0, w⟩] (Rect.unit (s := S16x512) ![0, 0] S16x512.size inb_S16x512_S16x512_0_0).toLoadRect = w :=
        fun w => cov_full arg21 inb_S16x512_S16x512_0_0 inb_S16x512_S16x512_0_0 w
      simp only [c21, c21', c20', c20, c19, c18, e1, e4, e7, e8, e9, e10, e2, e5, e6, eX]
    isplitl [Hc0_0_1 Hr0_0_1]
    · iexists _; isplitl [Hc0_0_1]; · iexact Hc0_0_1
      iexact Hr0_0_1
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 2 t.val) (Ring.bk 16 t.val)).2; isplitl [Hh0_0_0]; · iexact Hh0_0_0
      iexact Hr0_0_0
    iexists _; iexact HW

end Cert.KernelIdeal.Run

end
-- ==== Proof.RunB.lean ====
module

public import proofs.«01_k».proof.Proof.Reads

/-! The kernel body at a middle grid point. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1600000 in
/-- The kernel body at a middle point: it waits for its block, starts the next copy, and takes the running maxima, sums
    and weighted sums one step further. -/
theorem runB (c : Dev nD) (t : Fin cfg0.N) (arg1 : Memref sig .tc .vmem S1x2048x1 .i32) (harg1 : arg1.IsWhole) (arg3 : Memref sig .tc .vmem S16x2560 .f32) (harg3 : arg3.IsWhole) (arg4 : Memref sig .tc .vmem S512x512 .bf16) (harg4 : arg4.IsWhole) (arg5 : Memref sig .tc .vmem S2560x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x16 .f32) (harg9 : arg9.IsWhole) (arg10 : Memref sig .tc .vmem S1x1 .f32) (harg10 : arg10.IsWhole) (arg11 : Memref sig .tc .vmem S512x512 .f32) (harg11 : arg11.IsWhole) (arg12 : Memref sig .tc .vmem S1x512 .f32) (harg12 : arg12.IsWhole) (arg13 : Memref sig .tc .vmem S512x2 .f32) (harg13 : arg13.IsWhole) (arg14 : Memref sig .tc .vmem S1x2 .f32) (harg14 : arg14.IsWhole) (arg15 : Memref sig .tc .vmem S16x2 .f32) (harg15 : arg15.IsWhole) (arg18 : Memref sig .tc .vmem S16x512 .bf16) (harg18 : arg18.IsWhole) (arg19 : Memref sig .tc .vmem S1x16 .f32) (harg19 : arg19.IsWhole) (arg20 : Memref sig .tc .vmem S1x16 .f32) (harg20 : arg20.IsWhole) (arg21 : Memref sig .tc .vmem S16x512 .f32) (harg21 : arg21.IsWhole) (hc0 : ¬cond0_0 (grid0.coords t)) (hc1 : ¬cond0_1 (grid0.coords t)) (hc2 : cond0_2 (grid0.coords t)) (hc3 : ¬cond0_3 (grid0.coords t))
    (x0 : Vec F S1x2048x1 .i32) (x1 : Vec F S16x2560 .f32) (x2 : Vec F S512x512 .bf16) (x3 : Vec F S2560x512 .f32) (x4 : Vec F S1x512 .f32) (x5 : Vec F S512x512 .bf16) (x6 : Vec F S1x512 .f32) (x7 : Vec F S512x16 .f32) (x8 : Vec F S1x1 .f32) (x9 : Vec F S512x512 .f32) (x10 : Vec F S1x512 .f32) (x11 : Vec F S512x2 .f32) (x12 : Vec F S1x2 .f32) (fh0 : HbBuf0 (F := F) c hbM0_0) (sb : Vec F S16x512 .bf16) (mm : Vec F S1x16 .f32) (ss : Vec F S1x16 .f32) (ac : Vec F S16x512 .f32) (xo : Vec F S16x2 .f32) :
      ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xo ∗ owns (c : Thread nD τ) arg18 fullShare sb ∗ owns (c : Thread nD τ) arg19 fullShare mm ∗ owns (c : Thread nD τ) arg20 fullShare ss ∗ owns (c : Thread nD τ) arg21 fullShare ac ∗ Ring.inflight (flightW0_0 c fh0) (Ring.sl 2 t.val) (Ring.bk 16 t.val) ∗ Ring.kept (cellP0_0 c) (slotW0_0 c fh0) (landed0_0 c fh0) (Ring.sl 2 (t.val + 1)) (Ring.bk 16 (t.val - 1)) ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xo ∗ owns (c : Thread nD τ) arg18 fullShare sb ∗ owns (c : Thread nD τ) arg19 fullShare (stepM (xblk c fh0 (Ring.bk 16 t.val)) x0 x2 x5 x6 x7 x8 sb mm) ∗ owns (c : Thread nD τ) arg20 fullShare (stepS (xblk c fh0 (Ring.bk 16 t.val)) x0 x2 x5 x6 x7 x8 sb mm ss) ∗ owns (c : Thread nD τ) arg21 fullShare (stepA (xblk c fh0 (Ring.bk 16 t.val)) x0 x2 x5 x6 x7 x8 sb mm ac) ∗ Ring.inflight (flightW0_0 c fh0) (Ring.sl 2 (t.val + 1)) (Ring.bk 16 (t.val + 1)) ∗ Ring.kept (cellP0_0 c) (slotW0_0 c fh0) (landed0_0 c fh0) (Ring.sl 2 t.val) (Ring.bk 16 t.val) ∗ (∃ W', owes (c : Thread nD τ) 0 W')) -∗ K ⟨⟩))
          ⊢ wp frame (wpE (defs₀ (F := F)) Variants.none c none) Set.univ (cc0__fused_kernel (grid0.coords t) arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 scM0_0 (Memref.isWhole_whole _) cc0_scratch1 arg18 harg18 arg19 harg19 arg20 harg20 arg21 harg21) K := by
    intro W K
    haveI : Fact (¬cond0_0 (grid0.coords t)) := ⟨hc0⟩
    haveI : Fact (¬cond0_1 (grid0.coords t)) := ⟨hc1⟩
    haveI : Fact (cond0_2 (grid0.coords t)) := ⟨hc2⟩
    haveI : Fact (¬cond0_3 (grid0.coords t)) := ⟨hc3⟩
    simp only [cc0__fused_kernel_eq_skeleton]; unfold cc0__fused_kernel_skel
    simp only [k0_part1_eq_skeleton, k0_part2_eq_skeleton]
    unfold owns Ring.inflight Ring.kept
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fs1, %hfs1, HS1⟩, ⟨%fs2, %hfs2, HS2⟩, ⟨%fs3, %hfs3, HS3⟩, ⟨%fs4, %hfs4, HS4⟩, ⟨%ff0_0, Hf0_0, Hrf0_0⟩, ⟨Hc0_0_1, ⟨%fs0_0_1, Hs0_0_1, Hw0_0_1⟩⟩, HW, Hk⟩
    ihave Hsp0_0_1 := (src0_0_split c fh0 (Ring.sl 2 (t.val + 1)) (Ring.bk 16 (t.val + 1))).1 $$ Hw0_0_1
    icases Hsp0_0_1 with ⟨Hh0_0_1, Hr0_0_1⟩
    obtain rfl := harg1.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg18.eq_unread hfs1; obtain rfl := harg19.eq_unread hfs2; obtain rfl := harg20.eq_unread hfs3; obtain rfl := harg21.eq_unread hfs4
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; swap; · iexact H13
      ipureintro; exact harg15.read_unread _
    isplitl [HS1]
    · iexists _; isplitr; swap; · iexact HS1
      ipureintro; exact harg18.read_unread _
    isplitl [HS2]
    · iexists _; isplitr; swap; · iexact HS2
      ipureintro; refine (View.read_writes_full arg19.view _ inb_S1x16_S1x16_0_0 _ _).trans ?_
      sl_unfold_run_names
      have e1 := ld_full harg1 x0 inb_S1x2048x1_S1x2048x1_0_0_0
      have e4 := ld_full harg4 x2 inb_S512x512_S512x512_0_0
      have e7 := ld_full harg7 x5 inb_S512x512_S512x512_0_0
      have e8 := ld_full harg8 x6 inb_S1x512_S1x512_0_0
      have e9 := ld_full harg9 x7 inb_S512x16_S512x16_0_0
      have e10 := ld_full harg10 x8 inb_S1x1_S1x1_0_0
      have e18 := ld_full harg18 sb inb_S16x512_S16x512_0_0
      have e19 := ld_full harg19 mm inb_S1x16_S1x16_0_0
      have e20 := ld_full harg20 ss inb_S1x16_S1x16_0_0
      have e21 := ld_full harg21 ac inb_S16x512_S16x512_0_0
      have eX := fun inb f => slot_read c fh0 (Ring.sl 2 t.val) (Ring.bk 16 t.val) f _ (coff0_0_10 t) inb
      have e20' : View.readAt (Elt F) arg20.view (Rect.unit ![0, 0] ![1, 16] inb_S1x16_S1x16_0_0).toLoadRect (harg20.unread ss) = ss := e20
      have e21' : View.readAt (Elt F) arg21.view (Rect.unit ![0, 0] ![16, 512] inb_S16x512_S16x512_0_0).toLoadRect (harg21.unread ac) = ac := e21
      simp only [e20', e21', e1, e4, e7, e8, e9, e10, e18, e19, e20, e21, eX]
    isplitl [HS3]
    · iexists _; isplitr; swap; · iexact HS3
      ipureintro; refine (View.read_writes_full arg20.view _ inb_S1x16_S1x16_0_0 _ _).trans ?_
      sl_unfold_run_names
      have e1 := ld_full harg1 x0 inb_S1x2048x1_S1x2048x1_0_0_0
      have e4 := ld_full harg4 x2 inb_S512x512_S512x512_0_0
      have e7 := ld_full harg7 x5 inb_S512x512_S512x512_0_0
      have e8 := ld_full harg8 x6 inb_S1x512_S1x512_0_0
      have e9 := ld_full harg9 x7 inb_S512x16_S512x16_0_0
      have e10 := ld_full harg10 x8 inb_S1x1_S1x1_0_0
      have e18 := ld_full harg18 sb inb_S16x512_S16x512_0_0
      have e19 := ld_full harg19 mm inb_S1x16_S1x16_0_0
      have e20 := ld_full harg20 ss inb_S1x16_S1x16_0_0
      have e21 := ld_full harg21 ac inb_S16x512_S16x512_0_0
      have eX := fun inb f => slot_read c fh0 (Ring.sl 2 t.val) (Ring.bk 16 t.val) f _ (coff0_0_10 t) inb
      have e20' : View.readAt (Elt F) arg20.view (Rect.unit ![0, 0] ![1, 16] inb_S1x16_S1x16_0_0).toLoadRect (harg20.unread ss) = ss := e20
      have e21' : View.readAt (Elt F) arg21.view (Rect.unit ![0, 0] ![16, 512] inb_S16x512_S16x512_0_0).toLoadRect (harg21.unread ac) = ac := e21
      simp only [e20', e21', e1, e4, e7, e8, e9, e10, e18, e19, e20, e21, eX]
    isplitl [HS4]
    · iexists _; isplitr; swap; · iexact HS4
      ipureintro; refine (View.read_writes_full arg21.view _ inb_S16x512_S16x512_0_0 _ _).trans ?_
      sl_unfold_run_names
      have e1 := ld_full harg1 x0 inb_S1x2048x1_S1x2048x1_0_0_0
      have e4 := ld_full harg4 x2 inb_S512x512_S512x512_0_0
      have e7 := ld_full harg7 x5 inb_S512x512_S512x512_0_0
      have e8 := ld_full harg8 x6 inb_S1x512_S1x512_0_0
      have e9 := ld_full harg9 x7 inb_S512x16_S512x16_0_0
      have e10 := ld_full harg10 x8 inb_S1x1_S1x1_0_0
      have e18 := ld_full harg18 sb inb_S16x512_S16x512_0_0
      have e19 := ld_full harg19 mm inb_S1x16_S1x16_0_0
      have e20 := ld_full harg20 ss inb_S1x16_S1x16_0_0
      have e21 := ld_full harg21 ac inb_S16x512_S16x512_0_0
      have eX := fun inb f => slot_read c fh0 (Ring.sl 2 t.val) (Ring.bk 16 t.val) f _ (coff0_0_10 t) inb
      have e20' : View.readAt (Elt F) arg20.view (Rect.unit ![0, 0] ![1, 16] inb_S1x16_S1x16_0_0).toLoadRect (harg20.unread ss) = ss := e20
      have e21' : View.readAt (Elt F) arg21.view (Rect.unit ![0, 0] ![16, 512] inb_S16x512_S16x512_0_0).toLoadRect (harg21.unread ac) = ac := e21
      simp only [e20', e21', e1, e4, e7, e8, e9, e10, e18, e19, e20, e21, eX]
    isplitl [Hc0_0_1 Hr0_0_1]
    · iexists _; isplitl [Hc0_0_1]; · iexact Hc0_0_1
      iexact Hr0_0_1
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 16 t.val)).2; isplitl [Hf0_0_src]; · iexact Hf0_0_src
      iexact Hrf0_0
    iexists _; iexact HW

end Cert.KernelIdeal.Run

end
-- ==== Proof.RunC.lean ====
module

public import proofs.«01_k».proof.Proof.Reads

/-! The kernel body at the last grid point. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1600000 in
/-- The kernel body at the last point: it waits for the last block, takes the last step, and stores the result of the
    final layers. -/
theorem runC (c : Dev nD) (t : Fin cfg0.N) (arg1 : Memref sig .tc .vmem S1x2048x1 .i32) (harg1 : arg1.IsWhole) (arg3 : Memref sig .tc .vmem S16x2560 .f32) (harg3 : arg3.IsWhole) (arg4 : Memref sig .tc .vmem S512x512 .bf16) (harg4 : arg4.IsWhole) (arg5 : Memref sig .tc .vmem S2560x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x16 .f32) (harg9 : arg9.IsWhole) (arg10 : Memref sig .tc .vmem S1x1 .f32) (harg10 : arg10.IsWhole) (arg11 : Memref sig .tc .vmem S512x512 .f32) (harg11 : arg11.IsWhole) (arg12 : Memref sig .tc .vmem S1x512 .f32) (harg12 : arg12.IsWhole) (arg13 : Memref sig .tc .vmem S512x2 .f32) (harg13 : arg13.IsWhole) (arg14 : Memref sig .tc .vmem S1x2 .f32) (harg14 : arg14.IsWhole) (arg15 : Memref sig .tc .vmem S16x2 .f32) (harg15 : arg15.IsWhole) (arg18 : Memref sig .tc .vmem S16x512 .bf16) (harg18 : arg18.IsWhole) (arg19 : Memref sig .tc .vmem S1x16 .f32) (harg19 : arg19.IsWhole) (arg20 : Memref sig .tc .vmem S1x16 .f32) (harg20 : arg20.IsWhole) (arg21 : Memref sig .tc .vmem S16x512 .f32) (harg21 : arg21.IsWhole) (hc0 : ¬cond0_0 (grid0.coords t)) (hc1 : ¬cond0_1 (grid0.coords t)) (hc2 : ¬cond0_2 (grid0.coords t)) (hc3 : cond0_3 (grid0.coords t))
    (x0 : Vec F S1x2048x1 .i32) (x1 : Vec F S16x2560 .f32) (x2 : Vec F S512x512 .bf16) (x3 : Vec F S2560x512 .f32) (x4 : Vec F S1x512 .f32) (x5 : Vec F S512x512 .bf16) (x6 : Vec F S1x512 .f32) (x7 : Vec F S512x16 .f32) (x8 : Vec F S1x1 .f32) (x9 : Vec F S512x512 .f32) (x10 : Vec F S1x512 .f32) (x11 : Vec F S512x2 .f32) (x12 : Vec F S1x2 .f32) (fh0 : HbBuf0 (F := F) c hbM0_0) (sb : Vec F S16x512 .bf16) (mm : Vec F S1x16 .f32) (ss : Vec F S1x16 .f32) (ac : Vec F S16x512 .f32) :
      ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ owns (c : Thread nD τ) arg18 fullShare sb ∗ owns (c : Thread nD τ) arg19 fullShare mm ∗ owns (c : Thread nD τ) arg20 fullShare ss ∗ owns (c : Thread nD τ) arg21 fullShare ac ∗ Ring.inflight (flightW0_0 c fh0) (Ring.sl 2 t.val) (Ring.bk 16 t.val) ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (k0_pay5 (stepS (xblk c fh0 (Ring.bk 16 t.val)) x0 x2 x5 x6 x7 x8 sb mm ss) (stepA (xblk c fh0 (Ring.bk 16 t.val)) x0 x2 x5 x6 x7 x8 sb mm ac) x9 x10 x11 x12) ∗ owns (c : Thread nD τ) arg18 fullShare sb ∗ owns (c : Thread nD τ) arg19 fullShare (stepM (xblk c fh0 (Ring.bk 16 t.val)) x0 x2 x5 x6 x7 x8 sb mm) ∗ owns (c : Thread nD τ) arg20 fullShare (stepS (xblk c fh0 (Ring.bk 16 t.val)) x0 x2 x5 x6 x7 x8 sb mm ss) ∗ owns (c : Thread nD τ) arg21 fullShare (stepA (xblk c fh0 (Ring.bk 16 t.val)) x0 x2 x5 x6 x7 x8 sb mm ac) ∗ Ring.kept (cellP0_0 c) (slotW0_0 c fh0) (landed0_0 c fh0) (Ring.sl 2 t.val) (Ring.bk 16 t.val) ∗ (∃ W', owes (c : Thread nD τ) 0 W')) -∗ K ⟨⟩))
          ⊢ wp frame (wpE (defs₀ (F := F)) Variants.none c none) Set.univ (cc0__fused_kernel (grid0.coords t) arg1 harg1 (Memref.whole main_arg1) (Memref.isWhole_whole _) arg3 harg3 arg4 harg4 arg5 harg5 arg6 harg6 arg7 harg7 arg8 harg8 arg9 harg9 arg10 harg10 arg11 harg11 arg12 harg12 arg13 harg13 arg14 harg14 arg15 harg15 scM0_0 (Memref.isWhole_whole _) cc0_scratch1 arg18 harg18 arg19 harg19 arg20 harg20 arg21 harg21) K := by
    intro W K
    haveI : Fact (¬cond0_0 (grid0.coords t)) := ⟨hc0⟩
    haveI : Fact (¬cond0_1 (grid0.coords t)) := ⟨hc1⟩
    haveI : Fact (¬cond0_2 (grid0.coords t)) := ⟨hc2⟩
    haveI : Fact (cond0_3 (grid0.coords t)) := ⟨hc3⟩
    simp only [cc0__fused_kernel_eq_skeleton]; unfold cc0__fused_kernel_skel
    simp only [k0_part1_eq_skeleton, k0_part2_eq_skeleton]
    unfold owns Ring.inflight Ring.kept
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%fs1, %hfs1, HS1⟩, ⟨%fs2, %hfs2, HS2⟩, ⟨%fs3, %hfs3, HS3⟩, ⟨%fs4, %hfs4, HS4⟩, ⟨%ff0_0, Hf0_0, Hrf0_0⟩, HW, Hk⟩
    obtain rfl := harg1.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg18.eq_unread hfs1; obtain rfl := harg19.eq_unread hfs2; obtain rfl := harg20.eq_unread hfs3; obtain rfl := harg21.eq_unread hfs4
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; swap; · iexact H13
      ipureintro; refine (View.read_writes_full arg15.view _ inb_S16x2_S16x2_0_0 _ _).trans ?_
      sl_unfold_run_names
      have e1 := ld_full harg1 x0 inb_S1x2048x1_S1x2048x1_0_0_0
      have e4 := ld_full harg4 x2 inb_S512x512_S512x512_0_0
      have e7 := ld_full harg7 x5 inb_S512x512_S512x512_0_0
      have e8 := ld_full harg8 x6 inb_S1x512_S1x512_0_0
      have e9 := ld_full harg9 x7 inb_S512x16_S512x16_0_0
      have e10 := ld_full harg10 x8 inb_S1x1_S1x1_0_0
      have e18 := ld_full harg18 sb inb_S16x512_S16x512_0_0
      have e19 := ld_full harg19 mm inb_S1x16_S1x16_0_0
      have e20 := ld_full harg20 ss inb_S1x16_S1x16_0_0
      have e21 := ld_full harg21 ac inb_S16x512_S16x512_0_0
      have e11 := ld_full harg11 x9 inb_S512x512_S512x512_0_0
      have e12 := ld_full harg12 x10 inb_S1x512_S1x512_0_0
      have e13 := ld_full harg13 x11 inb_S512x2_S512x2_0_0
      have e14 := ld_full harg14 x12 inb_S1x2_S1x2_0_0
      have eX := fun inb f => slot_read c fh0 (Ring.sl 2 t.val) (Ring.bk 16 t.val) f _ (coff0_0_10 t) inb
      have e20' : View.readAt (Elt F) arg20.view (Rect.unit ![0, 0] ![1, 16] inb_S1x16_S1x16_0_0).toLoadRect (harg20.unread ss) = ss := e20
      have e21' : View.readAt (Elt F) arg21.view (Rect.unit ![0, 0] ![16, 512] inb_S16x512_S16x512_0_0).toLoadRect (harg21.unread ac) = ac := e21
      have c20' : ∀ w : Vec F S1x16 .f32, arg20.view.readCov (Val := Elt F) [⟨Rect.unit (s := S1x16) ![0, 0] ![1, 16] inb_S1x16_S1x16_0_0, w⟩] (Rect.unit (s := S1x16) ![0, 0] ![1, 16] inb_S1x16_S1x16_0_0).toLoadRect = w :=
        fun w => cov_full arg20 inb_S1x16_S1x16_0_0 inb_S1x16_S1x16_0_0 w
      have c21' : ∀ w : Vec F S16x512 .f32, arg21.view.readCov (Val := Elt F) [⟨Rect.unit (s := S16x512) ![0, 0] ![16, 512] inb_S16x512_S16x512_0_0, w⟩] (Rect.unit (s := S16x512) ![0, 0] ![16, 512] inb_S16x512_S16x512_0_0).toLoadRect = w :=
        fun w => cov_full arg21 inb_S16x512_S16x512_0_0 inb_S16x512_S16x512_0_0 w
      simp only [c21', c20', e20', e21', e1, e4, e7, e8, e9, e10, e18, e19, e20, e21, e11, e12, e13, e14, eX]
    isplitl [HS1]
    · iexists _; isplitr; swap; · iexact HS1
      ipureintro; exact harg18.read_unread _
    isplitl [HS2]
    · iexists _; isplitr; swap; · iexact HS2
      ipureintro; refine (View.read_writes_full arg19.view _ inb_S1x16_S1x16_0_0 _ _).trans ?_
      sl_unfold_run_names
      have e1 := ld_full harg1 x0 inb_S1x2048x1_S1x2048x1_0_0_0
      have e4 := ld_full harg4 x2 inb_S512x512_S512x512_0_0
      have e7 := ld_full harg7 x5 inb_S512x512_S512x512_0_0
      have e8 := ld_full harg8 x6 inb_S1x512_S1x512_0_0
      have e9 := ld_full harg9 x7 inb_S512x16_S512x16_0_0
      have e10 := ld_full harg10 x8 inb_S1x1_S1x1_0_0
      have e18 := ld_full harg18 sb inb_S16x512_S16x512_0_0
      have e19 := ld_full harg19 mm inb_S1x16_S1x16_0_0
      have e20 := ld_full harg20 ss inb_S1x16_S1x16_0_0
      have e21 := ld_full harg21 ac inb_S16x512_S16x512_0_0
      have eX := fun inb f => slot_read c fh0 (Ring.sl 2 t.val) (Ring.bk 16 t.val) f _ (coff0_0_10 t) inb
      have e20' : View.readAt (Elt F) arg20.view (Rect.unit ![0, 0] ![1, 16] inb_S1x16_S1x16_0_0).toLoadRect (harg20.unread ss) = ss := e20
      have e21' : View.readAt (Elt F) arg21.view (Rect.unit ![0, 0] ![16, 512] inb_S16x512_S16x512_0_0).toLoadRect (harg21.unread ac) = ac := e21
      simp only [e20', e21', e1, e4, e7, e8, e9, e10, e18, e19, e20, e21, eX]
    isplitl [HS3]
    · iexists _; isplitr; swap; · iexact HS3
      ipureintro; refine (View.read_writes_full arg20.view _ inb_S1x16_S1x16_0_0 _ _).trans ?_
      sl_unfold_run_names
      have e1 := ld_full harg1 x0 inb_S1x2048x1_S1x2048x1_0_0_0
      have e4 := ld_full harg4 x2 inb_S512x512_S512x512_0_0
      have e7 := ld_full harg7 x5 inb_S512x512_S512x512_0_0
      have e8 := ld_full harg8 x6 inb_S1x512_S1x512_0_0
      have e9 := ld_full harg9 x7 inb_S512x16_S512x16_0_0
      have e10 := ld_full harg10 x8 inb_S1x1_S1x1_0_0
      have e18 := ld_full harg18 sb inb_S16x512_S16x512_0_0
      have e19 := ld_full harg19 mm inb_S1x16_S1x16_0_0
      have e20 := ld_full harg20 ss inb_S1x16_S1x16_0_0
      have e21 := ld_full harg21 ac inb_S16x512_S16x512_0_0
      have eX := fun inb f => slot_read c fh0 (Ring.sl 2 t.val) (Ring.bk 16 t.val) f _ (coff0_0_10 t) inb
      have e20' : View.readAt (Elt F) arg20.view (Rect.unit ![0, 0] ![1, 16] inb_S1x16_S1x16_0_0).toLoadRect (harg20.unread ss) = ss := e20
      have e21' : View.readAt (Elt F) arg21.view (Rect.unit ![0, 0] ![16, 512] inb_S16x512_S16x512_0_0).toLoadRect (harg21.unread ac) = ac := e21
      simp only [e20', e21', e1, e4, e7, e8, e9, e10, e18, e19, e20, e21, eX]
    isplitl [HS4]
    · iexists _; isplitr; swap; · iexact HS4
      ipureintro; refine (View.read_writes_full arg21.view _ inb_S16x512_S16x512_0_0 _ _).trans ?_
      sl_unfold_run_names
      have e1 := ld_full harg1 x0 inb_S1x2048x1_S1x2048x1_0_0_0
      have e4 := ld_full harg4 x2 inb_S512x512_S512x512_0_0
      have e7 := ld_full harg7 x5 inb_S512x512_S512x512_0_0
      have e8 := ld_full harg8 x6 inb_S1x512_S1x512_0_0
      have e9 := ld_full harg9 x7 inb_S512x16_S512x16_0_0
      have e10 := ld_full harg10 x8 inb_S1x1_S1x1_0_0
      have e18 := ld_full harg18 sb inb_S16x512_S16x512_0_0
      have e19 := ld_full harg19 mm inb_S1x16_S1x16_0_0
      have e20 := ld_full harg20 ss inb_S1x16_S1x16_0_0
      have e21 := ld_full harg21 ac inb_S16x512_S16x512_0_0
      have eX := fun inb f => slot_read c fh0 (Ring.sl 2 t.val) (Ring.bk 16 t.val) f _ (coff0_0_10 t) inb
      have e20' : View.readAt (Elt F) arg20.view (Rect.unit ![0, 0] ![1, 16] inb_S1x16_S1x16_0_0).toLoadRect (harg20.unread ss) = ss := e20
      have e21' : View.readAt (Elt F) arg21.view (Rect.unit ![0, 0] ![16, 512] inb_S16x512_S16x512_0_0).toLoadRect (harg21.unread ac) = ac := e21
      simp only [e20', e21', e1, e4, e7, e8, e9, e10, e18, e19, e20, e21, eX]
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 16 t.val)).2; isplitl [Hf0_0_src]; · iexact Hf0_0_src
      iexact Hrf0_0
    iexists _; iexact HW

end Cert.KernelIdeal.Run

end
-- ==== Proof.KernelRun.lean ====
module

public import proofs.«01_k».proof.Proof.RunA
public import proofs.«01_k».proof.Proof.RunB
public import proofs.«01_k».proof.Proof.RunC
public import Idealize.ShloMosaic.Lib.Claim

/-! The run of the kernel with its running maxima, sums and weighted sums followed from point to point: what each point
    leaves in the scratch, what the last point stores, and that the arguments end as they began. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Grid point `k`. -/
def pt (k : ℕ) : Fin cfg0.N := ⟨k % 16, lt_of_lt_of_eq (Nat.mod_lt _ (by decide)) (show 16 = cfg0.N from N_0.symm)⟩

/-- Grid point `t` is `t`. -/
theorem pt_val (t : Fin cfg0.N) : pt t.val = t :=
  Fin.ext (Nat.mod_eq_of_lt (lt_of_lt_of_eq t.isLt (show cfg0.N = 16 from N_0)))

/-- Block `k` of the tokens in the token array as the region finds it. -/
def tok (c : Dev nD) (k : ℕ) : Vec F S1x2048x512 .f32 := xblk c (V m c main_arg1) (Ring.bk 16 k)

/-- What the first point computes once from the segments' own features. -/
def sbV (c : Dev nD) : Vec F S16x512 .bf16 := sb0 (iblk m c 1 (pt 0)) (iblk m c 3 (pt 0)) (iblk m c 4 (pt 0))

/-- The running maxima, sums and weighted sums after the first `k` points. -/
def scr (c : Dev nD) : ℕ → Vec F S1x16 .f32 × Vec F S1x16 .f32 × Vec F S16x512 .f32
  | 0 => (k0_pay7, k0_pay8, k0_pay9)
  | k + 1 =>
    (stepM (tok m c k) (iblk m c 0 (pt k)) (iblk m c 2 (pt k)) (iblk m c 5 (pt k)) (iblk m c 6 (pt k)) (iblk m c 7 (pt k)) (iblk m c 8 (pt k)) (sbV m c) (scr c k).1,
     stepS (tok m c k) (iblk m c 0 (pt k)) (iblk m c 2 (pt k)) (iblk m c 5 (pt k)) (iblk m c 6 (pt k)) (iblk m c 7 (pt k)) (iblk m c 8 (pt k)) (sbV m c) (scr c k).1 (scr c k).2.1,
     stepA (tok m c k) (iblk m c 0 (pt k)) (iblk m c 2 (pt k)) (iblk m c 5 (pt k)) (iblk m c 6 (pt k)) (iblk m c 7 (pt k)) (iblk m c 8 (pt k)) (sbV m c) (scr c k).1 (scr c k).2.2)

/-- What point `t` would store as the result: the final layers of the scratch it leaves. -/
def outV (c : Dev nD) (t : Fin cfg0.N) : Vec F S16x2 .f32 :=
  k0_pay5 (scr m c (t.val + 1)).2.1 (scr m c (t.val + 1)).2.2 (iblk m c 9 t) (iblk m c 10 t) (iblk m c 11 t) (iblk m c 12 t)

/-- One more point's maxima, at the point's own blocks. -/
theorem scrM_succ (c : Dev nD) (t : Fin cfg0.N) : (scr m c (t.val + 1)).1
    = stepM (xblk c (V m c main_arg1) (Ring.bk 16 t.val)) (iblk m c 0 t) (iblk m c 2 t) (iblk m c 5 t) (iblk m c 6 t) (iblk m c 7 t) (iblk m c 8 t) (sbV m c) (scr m c t.val).1 := by
  rw [scr, pt_val]; rfl

/-- One more point's sums. -/
theorem scrS_succ (c : Dev nD) (t : Fin cfg0.N) : (scr m c (t.val + 1)).2.1
    = stepS (xblk c (V m c main_arg1) (Ring.bk 16 t.val)) (iblk m c 0 t) (iblk m c 2 t) (iblk m c 5 t) (iblk m c 6 t) (iblk m c 7 t) (iblk m c 8 t) (sbV m c) (scr m c t.val).1 (scr m c t.val).2.1 := by
  rw [scr, pt_val]; rfl

/-- One more point's weighted sums. -/
theorem scrA_succ (c : Dev nD) (t : Fin cfg0.N) : (scr m c (t.val + 1)).2.2
    = stepA (xblk c (V m c main_arg1) (Ring.bk 16 t.val)) (iblk m c 0 t) (iblk m c 2 t) (iblk m c 5 t) (iblk m c 6 t) (iblk m c 7 t) (iblk m c 8 t) (sbV m c) (scr m c t.val).1 (scr m c t.val).2.2 := by
  rw [scr, pt_val]; rfl

/-- The segments' part at the first point's own blocks. -/
theorem sbV_at (c : Dev nD) (t : Fin cfg0.N) (h : t.val = 0) : sbV m c = sb0 (iblk m c 1 t) (iblk m c 3 t) (iblk m c 4 t) := by
  rw [← pt_val t, h]; rfl

/-- The scratch before point `k`: anything before the first, afterwards what the points before left. -/
def scrP (c : Dev nD) (k : ℕ) : sProp 𝕄 :=
  if k = 0 then iprop((∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d))
  else iprop(owns (c : Thread nD τ) scM0_1 fullShare (sbV m c) ∗ owns (c : Thread nD τ) scM0_2 fullShare (scr m c k).1 ∗ owns (c : Thread nD τ) scM0_3 fullShare (scr m c k).2.1 ∗ owns (c : Thread nD τ) scM0_4 fullShare (scr m c k).2.2)

/-- What holds before point `k`: the scratch, the random-number register at anything, and the pair of slots. -/
def Inv (c : Dev nD) (k : ℕ) : sProp 𝕄 := iprop(scrP m c k ∗ (∃ r, prngReg c r) ∗ ringAt0_0 c (V m c main_arg1) k)

/-- The proof data of the pipeline: the arrays as the region finds them, each input's buffer at its block, the output's
    at `outV`, and the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outV m c t
  Φ t := Inv m c t.val
  q _ := fullShare
  owed _ := 0

/-- The arrays at the region are those the host operations leave. -/
theorem A_eq (c : Dev nD) (w : Fin cfg0.W) : (dats m 0 c).A w = V m c (Pipeline.arrRef spec0 w) := by
  dsimp only [dats]

/-- The invariant before point `t`. -/
theorem Inv_castSucc (c : Dev nD) (t : Fin cfg0.N) : (dats m 0 c).Φ t.castSucc = Inv m c t.val := by
  dsimp only [dats]; simp only [Fin.coe_castSucc]

/-- The invariant after point `t`. -/
theorem Inv_succ (c : Dev nD) (t : Fin cfg0.N) : (dats m 0 c).Φ t.succ = Inv m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = outV m c t := by dsimp only [dats]

theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem before0_6 (c : Dev nD) (t : Fin cfg0.N) (d) : (dats m 0 c).before 6 t d = iblk m c 6 t :=
  before0_6_of m (dats m 0 c) (A_eq m c 6) (after0_6 m c) t d
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem before0_7 (c : Dev nD) (t : Fin cfg0.N) (d) : (dats m 0 c).before 7 t d = iblk m c 7 t :=
  before0_7_of m (dats m 0 c) (A_eq m c 7) (after0_7 m c) t d
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem before0_8 (c : Dev nD) (t : Fin cfg0.N) (d) : (dats m 0 c).before 8 t d = iblk m c 8 t :=
  before0_8_of m (dats m 0 c) (A_eq m c 8) (after0_8 m c) t d
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem before0_9 (c : Dev nD) (t : Fin cfg0.N) (d) : (dats m 0 c).before 9 t d = iblk m c 9 t :=
  before0_9_of m (dats m 0 c) (A_eq m c 9) (after0_9 m c) t d
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]
theorem before0_10 (c : Dev nD) (t : Fin cfg0.N) (d) : (dats m 0 c).before 10 t d = iblk m c 10 t :=
  before0_10_of m (dats m 0 c) (A_eq m c 10) (after0_10 m c) t d
theorem leaves0_10 (c : Dev nD) (t : Fin cfg0.N) : (dats m 0 c).leavesExact 10 t = owns (c : Thread nD τ) (ms0_10 t) fullShare (iblk m c 10 t) := by
  unfold Dat.leavesExact; rw [liveAt0_10 t, after0_10]
theorem before0_11 (c : Dev nD) (t : Fin cfg0.N) (d) : (dats m 0 c).before 11 t d = iblk m c 11 t :=
  before0_11_of m (dats m 0 c) (A_eq m c 11) (after0_11 m c) t d
theorem leaves0_11 (c : Dev nD) (t : Fin cfg0.N) : (dats m 0 c).leavesExact 11 t = owns (c : Thread nD τ) (ms0_11 t) fullShare (iblk m c 11 t) := by
  unfold Dat.leavesExact; rw [liveAt0_11 t, after0_11]
theorem before0_12 (c : Dev nD) (t : Fin cfg0.N) (d) : (dats m 0 c).before 12 t d = iblk m c 12 t :=
  before0_12_of m (dats m 0 c) (A_eq m c 12) (after0_12 m c) t d
theorem leaves0_12 (c : Dev nD) (t : Fin cfg0.N) : (dats m 0 c).leavesExact 12 t = owns (c : Thread nD τ) (ms0_12 t) fullShare (iblk m c 12 t) := by
  unfold Dat.leavesExact; rw [liveAt0_12 t, after0_12]
theorem leaves0_13_idle (c : Dev nD) (t : Fin cfg0.N) (h : ¬cond0_3 (grid0.coords t)) :
    (dats m 0 c).leavesExact 13 t = iprop(∃ d, owns (c : Thread nD τ) (ms0_13 t) fullShare ((dats m 0 c).before 13 t d)) :=
  Dat.leavesExact_idle (dats m 0 c) 13 t (idleAt0_13 t h) (noFlush0_13 t h)
theorem leaves0_13_live (c : Dev nD) (t : Fin cfg0.N) (h : cond0_3 (grid0.coords t)) :
    (dats m 0 c).leavesExact 13 t = owns (c : Thread nD τ) (ms0_13 t) fullShare (outV m c t) := by
  unfold Dat.leavesExact; rw [liveAt0_13 t h, after0_13]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 1600000 in
/-- The body at the first point: its run applies to what the invariant holds there and gives back the next invariant. -/
theorem body_first (c : Dev nD) (t : Fin cfg0.N) (h0 : cond0_0 (grid0.coords t)) (h1 : cond0_1 (grid0.coords t)) (h2 : cond0_2 (grid0.coords t)) (h3 : ¬cond0_3 (grid0.coords t)) :
    bodyPre m c t ⊢ wp frame (wpE (defs₀ (F := F)) Variants.none c none) Set.univ (bodyAt0 t) (fun _ => bodyPost m c t) := by
  unfold bodyPre bodyPost bodyAt0
  simp only [before0_0, leaves0_0, before0_1, leaves0_1, before0_2, leaves0_2, before0_3, leaves0_3, before0_4, leaves0_4, before0_5, leaves0_5, before0_6, leaves0_6, before0_7, leaves0_7, before0_8, leaves0_8, before0_9, leaves0_9, before0_10, leaves0_10, before0_11, leaves0_11, before0_12, leaves0_12]
  rw [Inv_castSucc m c t, Inv_succ m c t, leaves0_13_idle m c t h3]
  unfold Dat.owesAt Pipeline.owesWithin
  rw [show (dats m 0 c).owed t.castSucc = 0 from rfl, show (dats m 0 c).owed t.succ = 0 from rfl]
  unfold Inv scrP ringAt0_0
  obtain ⟨hK, -⟩ := rstep0_0_A t h0 h1 h2 h3
  rw [if_pos hK, if_pos hK, if_neg (show ¬t.val + 1 = 0 by omega), if_neg (show ¬t.val + 1 = 0 by omega)]
  rw [Ring.At₀_eq2' _ _ _ t.val hK (by decide : 2 ≤ 16), Ring.AtK2_one' _ _ _ _ _ t.val hK (by decide : 1 < 16)]
  rw [scrM_succ m c t, scrS_succ m c t, scrA_succ m c t, sbV_at m c t hK]
  have hI : scr m c t.val = (k0_pay7, k0_pay8, k0_pay9) := by rw [hK]; rfl
  rw [hI]
  iintro ⟨⟨⟨HS1, HS2, HS3, HS4⟩, Hg, ⟨-, Hfr0, Hfr1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runA c t _ _ _ _ _ _ _ _ _ _ _ _ _ _ _ _ _ _ _ _ _ _ _ _ _ _ _ _ _ _ _ _ _ _ _ _ h0 h1 h2 h3 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_arg1) ((dats m 0 c).before 13 t d13)) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS1]; · iexact HS1
  isplitl [HS2]; · iexact HS2
  isplitl [HS3]; · iexact HS3
  isplitl [HS4]; · iexact HS4
  isplitl [Hfr0]; · iexact Hfr0
  isplitl [Hfr1]; · iexact Hfr1
  isplitl [HW]; · iexact HW
  iintro ⟨H0, H1, H2, H3, H4, H5, H6, H7, H8, H9, H10, H11, H12, H13, HS1, HS2, HS3, HS4, Hfl', Hkp', ⟨%W', HW'⟩⟩
  isplitl [HS1 HS2 HS3 HS4 Hg Hfl' Hkp']
  · isplitl [HS1 HS2 HS3 HS4]
    · isplitl [HS1]; · iexact HS1
      isplitl [HS2]; · iexact HS2
      isplitl [HS3]; · iexact HS3
      iexact HS4
    isplitl [Hg]; · iexact Hg
    iapply Ring.with_homes₀
    isplitl [Hfl']; · iexact Hfl'
    iexact Hkp'
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists d13; iexact H13

set_option maxHeartbeats 1600000 in
/-- The body at the middle point: its run applies to what the invariant holds there and gives back the next invariant. -/
theorem body_middle (c : Dev nD) (t : Fin cfg0.N) (h0 : ¬cond0_0 (grid0.coords t)) (h1 : ¬cond0_1 (grid0.coords t)) (h2 : cond0_2 (grid0.coords t)) (h3 : ¬cond0_3 (grid0.coords t)) :
    bodyPre m c t ⊢ wp frame (wpE (defs₀ (F := F)) Variants.none c none) Set.univ (bodyAt0 t) (fun _ => bodyPost m c t) := by
  unfold bodyPre bodyPost bodyAt0
  simp only [before0_0, leaves0_0, before0_1, leaves0_1, before0_2, leaves0_2, before0_3, leaves0_3, before0_4, leaves0_4, before0_5, leaves0_5, before0_6, leaves0_6, before0_7, leaves0_7, before0_8, leaves0_8, before0_9, leaves0_9, before0_10, leaves0_10, before0_11, leaves0_11, before0_12, leaves0_12]
  rw [Inv_castSucc m c t, Inv_succ m c t, leaves0_13_idle m c t h3]
  unfold Dat.owesAt Pipeline.owesWithin
  rw [show (dats m 0 c).owed t.castSucc = 0 from rfl, show (dats m 0 c).owed t.succ = 0 from rfl]
  unfold Inv scrP ringAt0_0
  obtain ⟨hK1, hKB, -⟩ := rstep0_0_B t h0 h1 h2 h3
  rw [if_neg (show ¬t.val = 0 by omega), if_neg (show ¬t.val = 0 by omega), if_neg (show ¬t.val + 1 = 0 by omega), if_neg (show ¬t.val + 1 = 0 by omega)]
  rw [Ring.AtK2_here _ _ _ _ _ t.val hK1 hKB, Ring.AtK2_next _ _ _ _ _ t.val hK1 hKB]
  rw [scrM_succ m c t, scrS_succ m c t, scrA_succ m c t]
  iintro ⟨⟨⟨HS1, HS2, HS3, HS4⟩, Hg, ⟨-, Hfl, Hkp⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runB c t _ _ _ _ _ _ _ _ _ _ _ _ _ _ _ _ _ _ _ _ _ _ _ _ _ _ _ _ _ _ _ _ _ _ _ _ h0 h1 h2 h3 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_arg1) (sbV m c) (scr m c t.val).1 (scr m c t.val).2.1 (scr m c t.val).2.2 ((dats m 0 c).before 13 t d13)) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS1]; · iexact HS1
  isplitl [HS2]; · iexact HS2
  isplitl [HS3]; · iexact HS3
  isplitl [HS4]; · iexact HS4
  isplitl [Hfl]; · iexact Hfl
  isplitl [Hkp]; · iexact Hkp
  isplitl [HW]; · iexact HW
  iintro ⟨H0, H1, H2, H3, H4, H5, H6, H7, H8, H9, H10, H11, H12, H13, HS1, HS2, HS3, HS4, Hfl', Hkp', ⟨%W', HW'⟩⟩
  isplitl [HS1 HS2 HS3 HS4 Hg Hfl' Hkp']
  · isplitl [HS1 HS2 HS3 HS4]
    · isplitl [HS1]; · iexact HS1
      isplitl [HS2]; · iexact HS2
      isplitl [HS3]; · iexact HS3
      iexact HS4
    isplitl [Hg]; · iexact Hg
    iapply (Ring.with_homes (Idealize.SL.BI.Entails.refl _))
    isplitl [Hfl']; · iexact Hfl'
    iexact Hkp'
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists d13; iexact H13

set_option maxHeartbeats 1600000 in
/-- The body at the last point: its run applies to what the invariant holds there and gives back the next invariant. -/
theorem body_last (c : Dev nD) (t : Fin cfg0.N) (h0 : ¬cond0_0 (grid0.coords t)) (h1 : ¬cond0_1 (grid0.coords t)) (h2 : ¬cond0_2 (grid0.coords t)) (h3 : cond0_3 (grid0.coords t)) :
    bodyPre m c t ⊢ wp frame (wpE (defs₀ (F := F)) Variants.none c none) Set.univ (bodyAt0 t) (fun _ => bodyPost m c t) := by
  unfold bodyPre bodyPost bodyAt0
  simp only [before0_0, leaves0_0, before0_1, leaves0_1, before0_2, leaves0_2, before0_3, leaves0_3, before0_4, leaves0_4, before0_5, leaves0_5, before0_6, leaves0_6, before0_7, leaves0_7, before0_8, leaves0_8, before0_9, leaves0_9, before0_10, leaves0_10, before0_11, leaves0_11, before0_12, leaves0_12]
  rw [Inv_castSucc m c t, Inv_succ m c t, leaves0_13_live m c t h3]
  unfold Dat.owesAt Pipeline.owesWithin
  rw [show (dats m 0 c).owed t.castSucc = 0 from rfl, show (dats m 0 c).owed t.succ = 0 from rfl]
  unfold Inv scrP ringAt0_0
  obtain ⟨hK1, hKB, -⟩ := rstep0_0_C t h0 h1 h2 h3
  rw [if_neg (show ¬t.val = 0 by omega), if_neg (show ¬t.val = 0 by omega), if_neg (show ¬t.val + 1 = 0 by omega), if_neg (show ¬t.val + 1 = 0 by omega)]
  rw [Ring.AtK2_here_last _ _ _ _ _ t.val hK1 hKB, Ring.AtK2_next_last _ _ _ _ _ t.val hK1 hKB]
  unfold outV
  rw [scrM_succ m c t, scrS_succ m c t, scrA_succ m c t]
  iintro ⟨⟨⟨HS1, HS2, HS3, HS4⟩, Hg, ⟨-, Hfl, Hkp⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runC c t _ _ _ _ _ _ _ _ _ _ _ _ _ _ _ _ _ _ _ _ _ _ _ _ _ _ _ _ _ _ _ _ _ _ _ _ h0 h1 h2 h3 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_arg1) (sbV m c) (scr m c t.val).1 (scr m c t.val).2.1 (scr m c t.val).2.2) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [HS1]; · iexact HS1
  isplitl [HS2]; · iexact HS2
  isplitl [HS3]; · iexact HS3
  isplitl [HS4]; · iexact HS4
  isplitl [Hfl]; · iexact Hfl
  isplitl [HW]; · iexact HW
  iintro ⟨H0, H1, H2, H3, H4, H5, H6, H7, H8, H9, H10, H11, H12, H13, HS1, HS2, HS3, HS4, Hkp', ⟨%W', HW'⟩⟩
  isplitl [HS1 HS2 HS3 HS4 Hg Hkp Hkp']
  · isplitl [HS1 HS2 HS3 HS4]
    · isplitl [HS1]; · iexact HS1
      isplitl [HS2]; · iexact HS2
      isplitl [HS3]; · iexact HS3
      iexact HS4
    isplitl [Hg]; · iexact Hg
    iapply (Ring.with_homes (Idealize.SL.BI.Entails.refl _))
    isplitl [Hkp]; · iexact Hkp
    iexact Hkp'
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  by_cases h0 : t.val % 16 = 0
  · exact body_first m c t ((hcond0_0 t).mpr h0) ((hcond0_1 t).mpr h0) ((hcond0_2 t).mpr (by omega)) (fun h => by have := (hcond0_3 t).mp h; omega)
  · by_cases h2 : t.val < 15
    · exact body_middle m c t (fun h => h0 ((hcond0_0 t).mp h)) (fun h => h0 ((hcond0_1 t).mp h)) ((hcond0_2 t).mpr h2) (fun h => by have := (hcond0_3 t).mp h; omega)
    · exact body_last m c t (fun h => h0 ((hcond0_0 t).mp h)) (fun h => h0 ((hcond0_1 t).mp h)) (fun h => h2 ((hcond0_2 t).mp h)) ((hcond0_3 t).mpr (by omega))

/-- The body's label runs the body at the point's staging buffers. -/
theorem defs₀_row (t : Fin cfg0.N) :
    defs₀ (F := F) .tc cfg0.body (cfg0.bodyArgs t (cfg0.slots t)) = bodyAt0 t := by
  unfold defs₀; rw [Defs.onTc_tc]

/-- The body's triple as the library asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch gives the invariant before the first point. -/
theorem hin (c : Dev nD) : Pipeline.ΦD osem0 spec0 H0 (V m) c ⊢ (dats m 0 c).Φ 0 := by
  rw [PhiD0_eq, show (dats m 0 c).Φ 0 = Inv m c 0 from rfl]
  unfold Inv scrP
  rw [if_pos rfl]
  iintro ⟨⟨HR, HS1, HS2, HS3, HS4⟩, Hg, ⟨Hq0, Hq1⟩, Hh0⟩
  isplitl [HS1 HS2 HS3 HS4]
  · isplitl [HS1]; · iexact HS1
    isplitl [HS2]; · iexact HS2
    isplitl [HS3]; · iexact HS3
    iexact HS4
  isplitl [Hg]; · iexact Hg
  iapply (ring0_0_in (F := F) m c)
  isplitl [HR]; · iexact HR
  isplitl [Hq0 Hq1]
  · isplitl [Hq0]; · iexact Hq0
    iexact Hq1
  iexact Hh0

/-- The invariant after the last point gives back what the launch gave. -/
theorem hout (c : Dev nD) : (dats m 0 c).Φ (Fin.last cfg0.N) ⊢ Pipeline.ΦD osem0 spec0 H0 (V m) c := by
  rw [PhiD0_eq, show (dats m 0 c).Φ (Fin.last cfg0.N) = Inv m c grid0.N from rfl]
  unfold Inv scrP
  rw [show grid0.N = 16 by rw [N_0], if_neg (by decide)]
  iintro ⟨⟨HS1, HS2, HS3, HS4⟩, Hg, HR⟩
  ihave HX := (ring0_0_out (F := F) m c) $$ HR
  icases HX with ⟨HR, ⟨Hq0, Hq1⟩, Hh0⟩
  isplitl [HR HS1 HS2 HS3 HS4]
  · isplitl [HR]; · iexact HR
    isplitl [HS1]; · iexists _; iexact HS1
    isplitl [HS2]; · iexists _; iexact HS2
    isplitl [HS3]; · iexists _; iexact HS3
    iexists _; iexact HS4
  isplitl [Hg]
  · iexact Hg
  isplitl [Hq0 Hq1]
  · isplitl [Hq0]; · iexact Hq0
    iexact Hq1
  iexact Hh0

set_option backward.isDefEq.respectTransparency.types false in
/-- Every run ends, with each array of the pipeline as the proof data says and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends with each array of the pipeline as the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- Every run ends, with the arguments as they were and every semaphore at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.KernelOut.lean ====
module

public import proofs.«01_k».proof.Proof.KernelRun
public import Idealize.ShloMosaic.Lib.Pipeline.Value
public import Idealize.ShloMosaic.Lib.StableHlo.Run

/-! What the arrays of the kernel's pipeline hold: each window's block in terms of the array it is cut from, each of those
    arrays in terms of the arguments, and the result array after the run. -/

@[expose] public section

set_option maxRecDepth 16384

noncomputable section

namespace Cert.KernelIdeal.Run

open Cert.KernelIdeal.Gen
open Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The blocks -/

/-- The segment ids' block at point `t` is row `t` of their array. -/
theorem iblk0 (c : Dev nD) (t : Fin cfg0.N) (z : Fin 1) (i : Fin 2048) (u : Fin 1) :
    (iblk m c 0 t : Vec F S1x2048x1 .i32) (fun | ⟨0, _⟩ => z | ⟨1, _⟩ => i | ⟨2, _⟩ => u)
      = (V m c main_v4 : Vec F S16x2048x1 .i32) (fun | ⟨0, _⟩ => ⟨t.val, lt_of_lt_of_eq t.isLt (show cfg0.N = 16 from N_0)⟩ | ⟨1, _⟩ => i | ⟨2, _⟩ => u) := by
  show V m c main_v4 (((cfg0.win 0).blk t).view.emb (fun | ⟨0, _⟩ => z | ⟨1, _⟩ => i | ⟨2, _⟩ => u)) = _
  congr 1; funext a; apply Fin.ext
  have e : win0_0.index t (0 : Fin 3) = t.val ∧ win0_0.index t (1 : Fin 3) = 0 ∧ win0_0.index t (2 : Fin 3) = 0 :=
    (by decide +kernel : ∀ t : Fin grid0.N, win0_0.index t (0 : Fin 3) = t.val ∧ win0_0.index t (1 : Fin 3) = 0 ∧ win0_0.index t (2 : Fin 3) = 0) t
  match a with
  | ⟨0, _⟩ => show win0_0.index t (0 : Fin 3) * 1 + 1 * z.val = t.val; rw [e.1]; omega
  | ⟨1, _⟩ => show win0_0.index t (1 : Fin 3) * 2048 + 1 * i.val = i.val; rw [e.2.1]; omega
  | ⟨2, _⟩ => show win0_0.index t (2 : Fin 3) * 1 + 1 * u.val = u.val; rw [e.2.2]; omega

/-- Window 1's block is its whole array, at every point. -/
theorem iblk1 (c : Dev nD) (t : Fin cfg0.N) : (iblk m c 1 t : Vec F S16x2560 .f32) = V m c main_v0 := by
  funext y
  show V m c main_v0 (((cfg0.win 1).blk t).view.emb y) = _
  congr 1; funext a; apply Fin.ext
  have e : win0_1.index t (0 : Fin 2) = 0 ∧ win0_1.index t (1 : Fin 2) = 0 :=
    (by decide +kernel : ∀ t : Fin grid0.N, win0_1.index t (0 : Fin 2) = 0 ∧ win0_1.index t (1 : Fin 2) = 0) t
  match a with
  | ⟨0, _⟩ => show win0_1.index t (0 : Fin 2) * 16 + 1 * (y 0).val = (y 0).val; rw [e.1]; omega
  | ⟨1, _⟩ => show win0_1.index t (1 : Fin 2) * 2560 + 1 * (y 1).val = (y 1).val; rw [e.2]; omega

/-- Window 2's block is its whole array, at every point. -/
theorem iblk2 (c : Dev nD) (t : Fin cfg0.N) : (iblk m c 2 t : Vec F S512x512 .bf16) = V m c main_v2 := by
  funext y
  show V m c main_v2 (((cfg0.win 2).blk t).view.emb y) = _
  congr 1; funext a; apply Fin.ext
  have e : win0_2.index t (0 : Fin 2) = 0 ∧ win0_2.index t (1 : Fin 2) = 0 :=
    (by decide +kernel : ∀ t : Fin grid0.N, win0_2.index t (0 : Fin 2) = 0 ∧ win0_2.index t (1 : Fin 2) = 0) t
  match a with
  | ⟨0, _⟩ => show win0_2.index t (0 : Fin 2) * 512 + 1 * (y 0).val = (y 0).val; rw [e.1]; omega
  | ⟨1, _⟩ => show win0_2.index t (1 : Fin 2) * 512 + 1 * (y 1).val = (y 1).val; rw [e.2]; omega

/-- Window 3's block is its whole array, at every point. -/
theorem iblk3 (c : Dev nD) (t : Fin cfg0.N) : (iblk m c 3 t : Vec F S2560x512 .f32) = V m c main_v3 := by
  funext y
  show V m c main_v3 (((cfg0.win 3).blk t).view.emb y) = _
  congr 1; funext a; apply Fin.ext
  have e : win0_3.index t (0 : Fin 2) = 0 ∧ win0_3.index t (1 : Fin 2) = 0 :=
    (by decide +kernel : ∀ t : Fin grid0.N, win0_3.index t (0 : Fin 2) = 0 ∧ win0_3.index t (1 : Fin 2) = 0) t
  match a with
  | ⟨0, _⟩ => show win0_3.index t (0 : Fin 2) * 2560 + 1 * (y 0).val = (y 0).val; rw [e.1]; omega
  | ⟨1, _⟩ => show win0_3.index t (1 : Fin 2) * 512 + 1 * (y 1).val = (y 1).val; rw [e.2]; omega

/-- Window 4's block is its whole array, at every point. -/
theorem iblk4 (c : Dev nD) (t : Fin cfg0.N) : (iblk m c 4 t : Vec F S1x512 .f32) = V m c main_v5 := by
  funext y
  show V m c main_v5 (((cfg0.win 4).blk t).view.emb y) = _
  congr 1; funext a; apply Fin.ext
  have e : win0_4.index t (0 : Fin 2) = 0 ∧ win0_4.index t (1 : Fin 2) = 0 :=
    (by decide +kernel : ∀ t : Fin grid0.N, win0_4.index t (0 : Fin 2) = 0 ∧ win0_4.index t (1 : Fin 2) = 0) t
  match a with
  | ⟨0, _⟩ => show win0_4.index t (0 : Fin 2) * 1 + 1 * (y 0).val = (y 0).val; rw [e.1]; omega
  | ⟨1, _⟩ => show win0_4.index t (1 : Fin 2) * 512 + 1 * (y 1).val = (y 1).val; rw [e.2]; omega

/-- Window 5's block is its whole array, at every point. -/
theorem iblk5 (c : Dev nD) (t : Fin cfg0.N) : (iblk m c 5 t : Vec F S512x512 .bf16) = V m c main_v6 := by
  funext y
  show V m c main_v6 (((cfg0.win 5).blk t).view.emb y) = _
  congr 1; funext a; apply Fin.ext
  have e : win0_5.index t (0 : Fin 2) = 0 ∧ win0_5.index t (1 : Fin 2) = 0 :=
    (by decide +kernel : ∀ t : Fin grid0.N, win0_5.index t (0 : Fin 2) = 0 ∧ win0_5.index t (1 : Fin 2) = 0) t
  match a with
  | ⟨0, _⟩ => show win0_5.index t (0 : Fin 2) * 512 + 1 * (y 0).val = (y 0).val; rw [e.1]; omega
  | ⟨1, _⟩ => show win0_5.index t (1 : Fin 2) * 512 + 1 * (y 1).val = (y 1).val; rw [e.2]; omega

/-- Window 6's block is its whole array, at every point. -/
theorem iblk6 (c : Dev nD) (t : Fin cfg0.N) : (iblk m c 6 t : Vec F S1x512 .f32) = V m c main_v7 := by
  funext y
  show V m c main_v7 (((cfg0.win 6).blk t).view.emb y) = _
  congr 1; funext a; apply Fin.ext
  have e : win0_6.index t (0 : Fin 2) = 0 ∧ win0_6.index t (1 : Fin 2) = 0 :=
    (by decide +kernel : ∀ t : Fin grid0.N, win0_6.index t (0 : Fin 2) = 0 ∧ win0_6.index t (1 : Fin 2) = 0) t
  match a with
  | ⟨0, _⟩ => show win0_6.index t (0 : Fin 2) * 1 + 1 * (y 0).val = (y 0).val; rw [e.1]; omega
  | ⟨1, _⟩ => show win0_6.index t (1 : Fin 2) * 512 + 1 * (y 1).val = (y 1).val; rw [e.2]; omega

/-- Window 7's block is its whole array, at every point. -/
theorem iblk7 (c : Dev nD) (t : Fin cfg0.N) : (iblk m c 7 t : Vec F S512x16 .f32) = V m c main_v8 := by
  funext y
  show V m c main_v8 (((cfg0.win 7).blk t).view.emb y) = _
  congr 1; funext a; apply Fin.ext
  have e : win0_7.index t (0 : Fin 2) = 0 ∧ win0_7.index t (1 : Fin 2) = 0 :=
    (by decide +kernel : ∀ t : Fin grid0.N, win0_7.index t (0 : Fin 2) = 0 ∧ win0_7.index t (1 : Fin 2) = 0) t
  match a with
  | ⟨0, _⟩ => show win0_7.index t (0 : Fin 2) * 512 + 1 * (y 0).val = (y 0).val; rw [e.1]; omega
  | ⟨1, _⟩ => show win0_7.index t (1 : Fin 2) * 16 + 1 * (y 1).val = (y 1).val; rw [e.2]; omega

/-- Window 8's block is its whole array, at every point. -/
theorem iblk8 (c : Dev nD) (t : Fin cfg0.N) : (iblk m c 8 t : Vec F S1x1 .f32) = V m c main_v9 := by
  funext y
  show V m c main_v9 (((cfg0.win 8).blk t).view.emb y) = _
  congr 1; funext a; apply Fin.ext
  have e : win0_8.index t (0 : Fin 2) = 0 ∧ win0_8.index t (1 : Fin 2) = 0 :=
    (by decide +kernel : ∀ t : Fin grid0.N, win0_8.index t (0 : Fin 2) = 0 ∧ win0_8.index t (1 : Fin 2) = 0) t
  match a with
  | ⟨0, _⟩ => show win0_8.index t (0 : Fin 2) * 1 + 1 * (y 0).val = (y 0).val; rw [e.1]; omega
  | ⟨1, _⟩ => show win0_8.index t (1 : Fin 2) * 1 + 1 * (y 1).val = (y 1).val; rw [e.2]; omega

/-- Window 9's block is its whole array, at every point. -/
theorem iblk9 (c : Dev nD) (t : Fin cfg0.N) : (iblk m c 9 t : Vec F S512x512 .f32) = V m c main_arg9 := by
  funext y
  show V m c main_arg9 (((cfg0.win 9).blk t).view.emb y) = _
  congr 1; funext a; apply Fin.ext
  have e : win0_9.index t (0 : Fin 2) = 0 ∧ win0_9.index t (1 : Fin 2) = 0 :=
    (by decide +kernel : ∀ t : Fin grid0.N, win0_9.index t (0 : Fin 2) = 0 ∧ win0_9.index t (1 : Fin 2) = 0) t
  match a with
  | ⟨0, _⟩ => show win0_9.index t (0 : Fin 2) * 512 + 1 * (y 0).val = (y 0).val; rw [e.1]; omega
  | ⟨1, _⟩ => show win0_9.index t (1 : Fin 2) * 512 + 1 * (y 1).val = (y 1).val; rw [e.2]; omega

/-- Window 10's block is its whole array, at every point. -/
theorem iblk10 (c : Dev nD) (t : Fin cfg0.N) : (iblk m c 10 t : Vec F S1x512 .f32) = V m c main_v10 := by
  funext y
  show V m c main_v10 (((cfg0.win 10).blk t).view.emb y) = _
  congr 1; funext a; apply Fin.ext
  have e : win0_10.index t (0 : Fin 2) = 0 ∧ win0_10.index t (1 : Fin 2) = 0 :=
    (by decide +kernel : ∀ t : Fin grid0.N, win0_10.index t (0 : Fin 2) = 0 ∧ win0_10.index t (1 : Fin 2) = 0) t
  match a with
  | ⟨0, _⟩ => show win0_10.index t (0 : Fin 2) * 1 + 1 * (y 0).val = (y 0).val; rw [e.1]; omega
  | ⟨1, _⟩ => show win0_10.index t (1 : Fin 2) * 512 + 1 * (y 1).val = (y 1).val; rw [e.2]; omega

/-- Window 11's block is its whole array, at every point. -/
theorem iblk11 (c : Dev nD) (t : Fin cfg0.N) : (iblk m c 11 t : Vec F S512x2 .f32) = V m c main_arg11 := by
  funext y
  show V m c main_arg11 (((cfg0.win 11).blk t).view.emb y) = _
  congr 1; funext a; apply Fin.ext
  have e : win0_11.index t (0 : Fin 2) = 0 ∧ win0_11.index t (1 : Fin 2) = 0 :=
    (by decide +kernel : ∀ t : Fin grid0.N, win0_11.index t (0 : Fin 2) = 0 ∧ win0_11.index t (1 : Fin 2) = 0) t
  match a with
  | ⟨0, _⟩ => show win0_11.index t (0 : Fin 2) * 512 + 1 * (y 0).val = (y 0).val; rw [e.1]; omega
  | ⟨1, _⟩ => show win0_11.index t (1 : Fin 2) * 2 + 1 * (y 1).val = (y 1).val; rw [e.2]; omega

/-- Window 12's block is its whole array, at every point. -/
theorem iblk12 (c : Dev nD) (t : Fin cfg0.N) : (iblk m c 12 t : Vec F S1x2 .f32) = V m c main_v11 := by
  funext y
  show V m c main_v11 (((cfg0.win 12).blk t).view.emb y) = _
  congr 1; funext a; apply Fin.ext
  have e : win0_12.index t (0 : Fin 2) = 0 ∧ win0_12.index t (1 : Fin 2) = 0 :=
    (by decide +kernel : ∀ t : Fin grid0.N, win0_12.index t (0 : Fin 2) = 0 ∧ win0_12.index t (1 : Fin 2) = 0) t
  match a with
  | ⟨0, _⟩ => show win0_12.index t (0 : Fin 2) * 1 + 1 * (y 0).val = (y 0).val; rw [e.1]; omega
  | ⟨1, _⟩ => show win0_12.index t (1 : Fin 2) * 2 + 1 * (y 1).val = (y 1).val; rw [e.2]; omega

/-! ## The arrays, in terms of the arguments -/

/-- The array of the segments' own features. -/
theorem V_main_v0 (c : Dev nD) : V m c main_v0 = shapeCast S16x2560 (m ((c : Thread nD τ).loc main_arg0)) shapeCasts_S16x5x512_S16x2560 := by
  simp only [V, hostOps0]; after_results_simp <;> rfl

/-- The array of the first layer's weights of a token. -/
theorem V_main_v2 (c : Dev nD) : V m c main_v2 = truncf .bf16 (extractStridedSlice S512x512 ![0, 0] (m ((c : Thread nD τ).loc main_arg3)) slices_S3072x512_S512x512_0_0) bitsLt_bf16_f32 := by
  simp only [V, hostOps0]; after_results_simp <;> rfl

/-- The array of the first layer's weights of a segment. -/
theorem V_main_v3 (c : Dev nD) : V m c main_v3 = extractStridedSlice S2560x512 ![512, 0] (m ((c : Thread nD τ).loc main_arg3)) slices_S3072x512_S2560x512_512_0 := by
  simp only [V, hostOps0]; after_results_simp <;> rfl

/-- The array of the segment ids. -/
theorem V_main_v4 (c : Dev nD) : V m c main_v4 = shapeCast S16x2048x1 (m ((c : Thread nD τ).loc main_arg2)) shapeCasts_S32768_S16x2048x1 := by
  simp only [V, hostOps0]; after_results_simp <;> rfl

/-- The array of the first layer's bias. -/
theorem V_main_v5 (c : Dev nD) : V m c main_v5 = shapeCast S1x512 (m ((c : Thread nD τ).loc main_arg4)) shapeCasts_S512_S1x512 := by
  simp only [V, hostOps0]; after_results_simp <;> rfl

/-- The array of the second layer's weights. -/
theorem V_main_v6 (c : Dev nD) : V m c main_v6 = truncf .bf16 (m ((c : Thread nD τ).loc main_arg5)) bitsLt_bf16_f32 := by
  simp only [V, hostOps0]; after_results_simp <;> rfl

/-- The array of the second layer's bias. -/
theorem V_main_v7 (c : Dev nD) : V m c main_v7 = shapeCast S1x512 (m ((c : Thread nD τ).loc main_arg6)) shapeCasts_S512_S1x512 := by
  simp only [V, hostOps0]; after_results_simp <;> rfl

/-- The array of the last attention layer's weights. -/
theorem V_main_v8 (c : Dev nD) : V m c main_v8 = broadcastInDim S512x16 ![0, 1] bcast_S512x1_S512x16_0_1 (m ((c : Thread nD τ).loc main_arg7)) := by
  simp only [V, hostOps0]; after_results_simp <;> rfl

/-- The array of the last attention layer's bias. -/
theorem V_main_v9 (c : Dev nD) : V m c main_v9 = shapeCast S1x1 (m ((c : Thread nD τ).loc main_arg8)) shapeCasts_S1_S1x1 := by
  simp only [V, hostOps0]; after_results_simp <;> rfl

/-- The array of the third layer's bias. -/
theorem V_main_v10 (c : Dev nD) : V m c main_v10 = shapeCast S1x512 (m ((c : Thread nD τ).loc main_arg10)) shapeCasts_S512_S1x512 := by
  simp only [V, hostOps0]; after_results_simp <;> rfl

/-- The array of the fourth layer's bias. -/
theorem V_main_v11 (c : Dev nD) : V m c main_v11 = shapeCast S1x2 (m ((c : Thread nD τ).loc main_arg12)) shapeCasts_S2_S1x2 := by
  simp only [V, hostOps0]; after_results_simp <;> rfl

/-! ## The result -/

/-- The result's window stays at block 0. -/
theorem idx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)

/-- The one point that writes the result back is the last. -/
theorem flush13_eq (t : Fin cfg0.N) (hf : (cfg0.win 13).flush t = true) : t = pt 15 := by
  have h1 : t.val % 16 = 15 := (flush0_13 t).mp hf
  have h2 : t.val < 16 := lt_of_lt_of_eq t.isLt (show cfg0.N = 16 from N_0)
  exact Fin.ext (show t.val = 15 % 16 by omega)

/-- What a point writes back is its block of what the last point stores. -/
theorem flushed13 (c : Dev nD) (t : Fin cfg0.N) (hf : (cfg0.win 13).flush t = true) :
    (dats m 0 c).flushed 13 t = ((cfg0.win 13).blk t).view.read (Elt F) (outV m c (pt 15)) := by
  show (cfg0.win 13).cut (grid0.coords t) ((dats m 0 c).after 13 t) = _
  rw [after0_13, flush13_eq t hf]
  obtain ⟨e0, e1⟩ := idx13 (pt 15)
  funext y
  show outV m c (pt 15) _ = outV m c (pt 15) (((cfg0.win 13).blk (pt 15)).view.emb y)
  congr 1; funext a; apply Fin.ext
  match a with
  | ⟨0, _⟩ => show (y 0).val = win0_13.index (pt 15) (0 : Fin 2) * 16 + 1 * (y 0).val; rw [e0]; omega
  | ⟨1, _⟩ => show (y 1).val = win0_13.index (pt 15) (1 : Fin 2) * 2 + 1 * (y 1).val; rw [e1]; omega

/-- Every index of the result is written back. -/
theorem cover13 (i : S16x2.Idx) : ∃ t : Fin cfg0.N, (cfg0.win 13).flush t = true ∧ i ∈ ((cfg0.win 13).blk t).view.set := by
  refine ⟨pt 15, (flush0_13 (pt 15)).mpr rfl, ?_⟩
  show i ∈ ((View.whole main_v12).slice (win0_13.rect (pt 15))).set
  rw [View.set_slice_whole, Rect.mem_set_unit]
  obtain ⟨e0, e1⟩ := idx13 (pt 15)
  have hi0 : (i 0).val < 16 := (i 0).isLt
  have hi1 : (i 1).val < 2 := (i 1).isLt
  intro a
  match a with
  | ⟨0, _⟩ => show win0_13.index (pt 15) (0 : Fin 2) * 16 ≤ (i 0).val ∧ (i 0).val < win0_13.index (pt 15) (0 : Fin 2) * 16 + 16; rw [e0]; omega
  | ⟨1, _⟩ => show win0_13.index (pt 15) (1 : Fin 2) * 2 ≤ (i 1).val ∧ (i 1).val < win0_13.index (pt 15) (1 : Fin 2) * 2 + 2; rw [e1]; omega

/-- After the run the result array is what the last point stores. -/
theorem final13 (c : Dev nD) : (dats m 0 c).arrAt 13 cfg0.N = outV m c (pt 15) :=
  (dats m 0 c).arrAt_eq_of_cover 13 _ (fun t hf => flushed13 m c t hf) cover13

/-- Every run ends with the result at what the last point stores and the arguments as they were. -/
theorem run_out : θ_run defs (onTc (τ := τ) (main (F := F))) ⟨m, fun _ => 0, ρ⟩ (fun r => ∀ c : Dev nD,
      r.2.mem ((c.tc : Thread nD τ).loc main_v12) = outV m c (pt 15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨h.1 c, h.2 c⟩)
    (θ_run_and (Q₁ := fun r => ∀ c : Dev nD, r.2.mem ((c.tc : Thread nD τ).loc main_v12) = outV m c (pt 15))
      ((θ_run defs _ _).mono (fun _ h c => ((h c).1 13).trans (final13 m c)) (run_main m ρ))
      (frame_of m ρ (dats m) (A_eq m) (run_main m ρ)))

end Cert.KernelIdeal.Run

end
-- ==== Proof.Soft.lean ====
module

public import Idealize.ShloMosaic.PureOps.Ideal
public import Idealize.ShloMosaic.PureOps.Ideal.Laws

/-! The mathematics of one segment's softmax pooling over the extended reals: maxima of real numbers are real, a weighted sum of
    exponentials may be taken about any real shift, and a running sum moves from one shift to the next by one factor. -/

@[expose] public section

noncomputable section

namespace Cert.Soft

open Idealize.ShloMosaic

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- An extended real is REAL when it is the image of a real number. -/
def IsReal (x : EReal) : Prop := ∃ r : ℝ, x = (r : EReal)

/-- A real number is real. -/
theorem isReal_coe (r : ℝ) : IsReal (r : EReal) := ⟨r, rfl⟩

/-- Zero is real. -/
theorem isReal_zero : IsReal 0 := ⟨0, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The greater of two reals is real. -/
theorem IsReal.max {x y : EReal} (hx : IsReal x) (hy : IsReal y) : IsReal (max x y) := by
  obtain ⟨a, rfl⟩ := hx; obtain ⟨b, rfl⟩ := hy
  rcases max_choice (a : EReal) (b : EReal) with h | h <;> rw [h]
  · exact ⟨a, rfl⟩
  · exact ⟨b, rfl⟩

/-- A finite sum of reals is real. -/
theorem IsReal.sum {ι : Type*} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- The maximum of a real number and finitely many real numbers is real. -/
theorem max_fold_real {ι : Type*} (s : Finset ι) (f : ι → EReal) (h : ∀ i, IsReal (f i)) {a : EReal} (ha : IsReal a) :
    IsReal (max a (s.fold max ⊥ f)) := by
  classical
  induction s using Finset.induction_on with
  | empty => simpa using ha
  | insert i s hi ih =>
    rw [Finset.fold_insert hi, max_left_comm]
    exact (h i).max ih

/-- A maximum, from minus infinity, of values each real or minus infinity is real as soon as one of them is. -/
theorem fold_real {ι : Type*} (s : Finset ι) (f : ι → EReal) (h : ∀ i, IsReal (f i) ∨ f i = ⊥) {i₀ : ι} (hi : i₀ ∈ s)
    (h₀ : IsReal (f i₀)) : IsReal (s.fold max ⊥ f) := by
  classical
  have key : ∀ s : Finset ι, IsReal (s.fold max ⊥ f) ∨ ((∀ i ∈ s, f i = ⊥) ∧ s.fold max ⊥ f = ⊥) := by
    intro s
    induction s using Finset.induction_on with
    | empty => exact Or.inr ⟨by simp, by simp⟩
    | insert i s hi ih =>
      rw [Finset.fold_insert hi]
      rcases h i with hr | hb
      · rcases ih with hs | ⟨_, hs⟩
        · exact Or.inl (hr.max hs)
        · left; rw [hs, max_eq_left bot_le]; exact hr
      · rw [hb, max_eq_right bot_le]
        rcases ih with hs | ⟨hs', hs⟩
        · exact Or.inl hs
        · exact Or.inr ⟨fun k hk => by
            rcases Finset.mem_insert.1 hk with e | e
            · rw [e, hb]
            · exact hs' k e, hs⟩
  rcases key s with hs | ⟨hs, _⟩
  · exact hs
  · obtain ⟨r, hr⟩ := h₀
    rw [hs i₀ hi] at hr
    exact absurd hr (EReal.bot_ne_coe r)

/-- One step of the running denominator and of the running weighted sum (`X` the weights, constant one for the denominator):
    the sum about the old shift `M`, rescaled, plus the new tokens' terms about the new shift `M'`. -/
theorem step_sum {ι κ : Type*} (s : Finset ι) (t : Finset κ) (p : κ → Prop) [DecidablePred p] (L X : ι → ℝ) (L' X' : κ → ℝ) (M M' : ℝ) :
    ((∑ i ∈ s, Real.exp (L i - M) * X i : ℝ) : EReal) * Ideal.exp ((M : EReal) - (M' : EReal))
        + ∑ k ∈ t, (if p k then Ideal.exp ((L' k : EReal) - (M' : EReal)) * (X' k : EReal) else 0)
      = ((∑ i ∈ s, Real.exp (L i - M') * X i + ∑ k ∈ t.filter p, Real.exp (L' k - M') * X' k : ℝ) : EReal) := by
  have e1 : Ideal.exp ((M : EReal) - (M' : EReal)) = ((Real.exp (M - M') : ℝ) : EReal) := by
    rw [← EReal.coe_sub, Ideal.exp_coe]
  have e2 : ∀ k, (if p k then Ideal.exp ((L' k : EReal) - (M' : EReal)) * (X' k : EReal) else 0)
      = ((if p k then Real.exp (L' k - M') * X' k else 0 : ℝ) : EReal) := by
    intro k
    split
    · rw [← EReal.coe_sub, Ideal.exp_coe, ← EReal.coe_mul]
    · rfl
  rw [e1, Finset.sum_congr rfl fun k _ => e2 k, ← coe_sum, ← EReal.coe_mul, ← EReal.coe_add, Finset.sum_filter]
  congr 2
  rw [Finset.sum_mul]
  refine Finset.sum_congr rfl fun i _ => ?_
  rw [mul_right_comm, ← Real.exp_add]
  congr 2
  ring

/-- THE POOLING. The weighted sum over a segment about a real shift `M`, divided by the denominator about that shift (0 where
    the denominator is 0), is the sum of the softmax weights about any other shift `mx` — real as soon as the segment holds a
    token — times the tokens. -/
theorem pool_eq {ι : Type*} (s : Finset ι) (L X : ι → ℝ) (M : ℝ) (mx : EReal) (hmx : ∀ i ∈ s, IsReal mx) :
    (if (0 : EReal) < ((∑ i ∈ s, Real.exp (L i - M) : ℝ) : EReal)
      then Ideal.div ((∑ i ∈ s, Real.exp (L i - M) * X i : ℝ) : EReal) ((∑ i ∈ s, Real.exp (L i - M) : ℝ) : EReal) else 0)
      = 0 + ∑ i ∈ s, Ideal.div (Ideal.exp ((L i : EReal) - mx)) (0 + ∑ k ∈ s, Ideal.exp ((L k : EReal) - mx)) * (X i : EReal) := by
  rcases s.eq_empty_or_nonempty with rfl | hs
  · simp
  · obtain ⟨i₀, hi₀⟩ := hs
    obtain ⟨M', rfl⟩ := hmx i₀ hi₀
    have pos : ∀ N : ℝ, 0 < ∑ i ∈ s, Real.exp (L i - N) := fun N => Finset.sum_pos (fun i _ => Real.exp_pos _) ⟨i₀, hi₀⟩
    have e : ∀ i, Ideal.exp ((L i : EReal) - (M' : EReal)) = ((Real.exp (L i - M') : ℝ) : EReal) := fun i => by
      rw [← EReal.coe_sub, Ideal.exp_coe]
    simp only [e]
    rw [← coe_sum, zero_add, zero_add, if_pos (by exact_mod_cast pos M)]
    simp only [Ideal.div_coe (pos M).ne', Ideal.div_coe (pos M').ne', ← EReal.coe_mul]
    rw [← coe_sum]
    congr 1
    have shift : ∀ i, Real.exp (L i - M) = Real.exp (M' - M) * Real.exp (L i - M') := fun i => by
      rw [← Real.exp_add]; congr 1; ring
    have hc : Real.exp (M' - M) ≠ 0 := (Real.exp_pos _).ne'
    have hD : (∑ i ∈ s, Real.exp (L i - M')) ≠ 0 := (pos M').ne'
    simp only [shift, ← Finset.mul_sum, mul_assoc]
    rw [Finset.sum_congr rfl fun i _ => show Real.exp (L i - M') * (1 / (∑ i ∈ s, Real.exp (L i - M')) * X i)
      = (1 / ∑ i ∈ s, Real.exp (L i - M')) * (Real.exp (L i - M') * X i) by ring, ← Finset.mul_sum]
    field_simp

end Cert.Soft

end
-- ==== Proof.KernelPt.lean ====
module

public import proofs.«01_k».proof.Proof.Step
public import proofs.«01_k».proof.Proof.Soft
public import Idealize.ShloMosaic.Lib.Pointwise
public import Idealize.ShloMosaic.PureOps.Ideal.Laws
public import Idealize.ShloMosaic.Lib.IdealHost

/-! The kernel's vectors, read at an index over the extended reals. -/

@[expose] public section

set_option maxRecDepth 16384

noncomputable section

namespace Cert.KernelIdeal.Pt

open Cert.KernelIdeal.Gen
open Idealize.ShloMosaic Idealize.ShloMosaic.TcCoe

/-- The mask value that stands for minus infinity in the kernel is a real number. -/
theorem neg_real : Soft.IsReal (Ideal.ofBits FTy.f32 0xF149F2CA#32) :=
  ⟨_, by simp [Ideal.ofBits, Ideal.ieee, -EReal.coe_mul]; rfl⟩

/-- The other mask value is minus infinity. -/
theorem ninf_bot : Ideal.ofBits FTy.f32 0xFF800000#32 = ⊥ := by simp [Ideal.ofBits, Ideal.ieee]

/-- A selection on the equality of two words is a choice on it. -/
theorem select_eq {α : Type} {w : Nat} (a b : BitVec w) (x y : α) : Scalar.select (IntOp.cmpi .eq a b) x y = if a = b then x else y := by
  by_cases h : a = b
  · subst h; simp [IntOp.cmpi, Scalar.select]
  · have hb : (a == b) = false := by simpa using h
    simp [IntOp.cmpi, Scalar.select, hb, h]

/-- Two small numbers' words are equal just when the numbers are. -/
theorem ofNat_inj16 (a b : Fin 16) : (BitVec.ofNat 32 a.val = BitVec.ofNat 32 b.val) ↔ a = b := by
  revert a b; decide

/-- The token block as a matrix. -/
theorem pay10_at (xb : Vec Ideal S1x2048x512 .f32) (i : Fin 2048) (k : Fin 512) :
    k0_pay10 (F := Ideal) xb (ix2 i k) = xb (ix3 0 i k) := by
  pointwise [k0_pay10]

/-- The mask: whether token `i`'s id is `j`. -/
theorem pay11_at (x0 : Vec Ideal S1x2048x1 .i32) (i : Fin 2048) (j : Fin 16) :
    k0_pay11 (F := Ideal) x0 (ix2 i j) = IntOp.cmpi .eq (BitVec.ofNat 32 j.val) (x0 (ix3 0 i 0)) := by
  pointwise [k0_pay11]

/-- The mask as numbers. -/
theorem pay12_at (x0 : Vec Ideal S1x2048x1 .i32) (i : Fin 2048) (j : Fin 16) :
    k0_pay12 (F := Ideal) x0 (ix2 i j) = (if BitVec.ofNat 32 j.val = x0 (ix3 0 i 0) then 1 else 0 : EReal) := by
  have e : k0_pay12 (F := Ideal) x0 (ix2 i j) = FloatOps.sitofp (F := Ideal) FTy.f32 (BitVec.setWidth 32 (k0_pay11 (F := Ideal) x0 (ix2 i j))) := by
    pointwise [k0_pay12]
  rw [e, pay11_at]
  show (((BitVec.setWidth 32 (IntOp.cmpi .eq (BitVec.ofNat 32 j.val) (x0 (ix3 0 i 0)))).toInt : ℝ) : EReal) = _
  by_cases h : BitVec.ofNat 32 j.val = x0 (ix3 0 i 0)
  · rw [if_pos h, ← h]; simp [IntOp.cmpi]
  · have hb : (BitVec.ofNat 32 j.val == x0 (ix3 0 i 0)) = false := by simpa using h
    rw [if_neg h]; simp [IntOp.cmpi, hb]

/-- The segments' first-layer sums. -/
theorem pay6_at (x1 : Vec Ideal S16x2560 .f32) (x3 : Vec Ideal S2560x512 .f32) (x4 : Vec Ideal S1x512 .f32) (s : Fin 16) (n : Fin 512) :
    k0_pay6 (F := Ideal) x1 x3 x4 (ix2 s n) = ∑ k : Fin 2560, x1 (ix2 s k) * x3 (ix2 k n) + x4 (ix2 0 n) := by
  pointwise [k0_pay6]

/-- The block's logits, one column per segment. -/
theorem pay14_at (xb : FVec Ideal S2048x512 .bf16) (oh : FVec Ideal S2048x16 .bf16) (w : FVec Ideal S512x512 .bf16) (sb : Vec Ideal S16x512 .bf16)
    (x5 : Vec Ideal S512x512 .bf16) (x6 : Vec Ideal S1x512 .f32) (x7 : Vec Ideal S512x16 .f32) (x8 : Vec Ideal S1x1 .f32) (i : Fin 2048) (j : Fin 16) :
    k0_pay14 (F := Ideal) xb oh w (constant S2048x512 .f32 0x00000000#32) sb x5 x6 x7 x8 (ix2 i j)
      = ∑ b : Fin 512, max (∑ a : Fin 512, max (∑ k : Fin 512, xb (ix2 i k) * w (ix2 k a) + ∑ s : Fin 16, oh (ix2 i s) * sb (ix2 s a)) 0 * x5 (ix2 a b) + x6 (ix2 0 b)) 0
          * x7 (ix2 b j) + x8 (ix2 0 0) := by
  pointwise [k0_pay14]

/-- The new running maximum. -/
theorem pay15_at (xb : FVec Ideal S2048x512 .bf16) (mk : IVec S2048x16 1) (oh : FVec Ideal S2048x16 .bf16) (w : FVec Ideal S512x512 .bf16) (sb : Vec Ideal S16x512 .bf16)
    (x5 : Vec Ideal S512x512 .bf16) (x6 : Vec Ideal S1x512 .f32) (x7 : Vec Ideal S512x16 .f32) (x8 : Vec Ideal S1x1 .f32) (mm : Vec Ideal S1x16 .f32) (z : Fin 1) (j : Fin 16) :
    k0_pay15 (F := Ideal) xb mk oh w (constant S2048x512 .f32 0x00000000#32) sb x5 x6 x7 x8 mm (ix2 z j)
      = max (mm (ix2 z j)) (Finset.univ.fold max (Ideal.ofBits FTy.f32 0xFF800000#32) fun i : Fin 2048 =>
          Scalar.select (mk (ix2 i j)) (k0_pay14 (F := Ideal) xb oh w (constant S2048x512 .f32 0x00000000#32) sb x5 x6 x7 x8 (ix2 i j)) (Ideal.ofBits FTy.f32 0xF149F2CA#32)) := by
  pointwise [k0_pay15]

/-- The block's exponentials about the new maximum. -/
theorem pay18_at (xb : FVec Ideal S2048x512 .bf16) (mk : IVec S2048x16 1) (oh : FVec Ideal S2048x16 .bf16) (w : FVec Ideal S512x512 .bf16) (sb : Vec Ideal S16x512 .bf16)
    (x5 : Vec Ideal S512x512 .bf16) (x6 : Vec Ideal S1x512 .f32) (x7 : Vec Ideal S512x16 .f32) (x8 : Vec Ideal S1x1 .f32) (mm : Vec Ideal S1x16 .f32) (i : Fin 2048) (j : Fin 16) :
    k0_pay18 (F := Ideal) xb mk oh w (constant S2048x512 .f32 0x00000000#32) sb x5 x6 x7 x8 mm (ix2 i j)
      = Ideal.exp (k0_pay14 (F := Ideal) xb oh w (constant S2048x512 .f32 0x00000000#32) sb x5 x6 x7 x8 (ix2 i j)
          - k0_pay15 (F := Ideal) xb mk oh w (constant S2048x512 .f32 0x00000000#32) sb x5 x6 x7 x8 mm (ix2 0 j)) := by
  pointwise [k0_pay18]

/-- The factor that moves the running sums to the new maximum. -/
theorem pay16_at (xb : FVec Ideal S2048x512 .bf16) (mk : IVec S2048x16 1) (oh : FVec Ideal S2048x16 .bf16) (w : FVec Ideal S512x512 .bf16) (sb : Vec Ideal S16x512 .bf16)
    (x5 : Vec Ideal S512x512 .bf16) (x6 : Vec Ideal S1x512 .f32) (x7 : Vec Ideal S512x16 .f32) (x8 : Vec Ideal S1x1 .f32) (mm : Vec Ideal S1x16 .f32) (z : Fin 1) (j : Fin 16) :
    k0_pay16 (F := Ideal) xb mk oh w (constant S2048x512 .f32 0x00000000#32) sb x5 x6 x7 x8 mm (ix2 z j)
      = Ideal.exp (mm (ix2 z j) - k0_pay15 (F := Ideal) xb mk oh w (constant S2048x512 .f32 0x00000000#32) sb x5 x6 x7 x8 mm (ix2 z j)) := by
  pointwise [k0_pay16]

/-- The new running denominator. -/
theorem pay2_at (mk : IVec S2048x16 1) (sc : FVec Ideal S1x16 .f32) (E : FVec Ideal S2048x16 .f32) (ss : Vec Ideal S1x16 .f32) (z : Fin 1) (j : Fin 16) :
    k0_pay2 (F := Ideal) mk sc E (Scalar.ofBits .f32 0x00000000#32) ss (ix2 z j)
      = ss (ix2 z j) * sc (ix2 z j) + ∑ i : Fin 2048, Scalar.select (mk (ix2 i j)) (E (ix2 i j)) 0 := by
  pointwise [k0_pay2, k0_pay1]

/-- The new running weighted sum. -/
theorem pay4_at (xb : FVec Ideal S2048x512 .bf16) (mk : IVec S2048x16 1) (sc : FVec Ideal S1x16 .f32) (E : FVec Ideal S2048x16 .f32) (ss : Vec Ideal S16x512 .f32) (j : Fin 16) (d : Fin 512) :
    k0_pay4 (F := Ideal) xb mk sc E (Scalar.ofBits .f32 0x00000000#32) ss (ix2 j d)
      = ss (ix2 j d) * sc (ix2 0 j) + ∑ i : Fin 2048, Scalar.select (mk (ix2 i j)) (E (ix2 i j)) 0 * xb (ix2 i d) := by
  have e : k0_pay4 (F := Ideal) xb mk sc E (Scalar.ofBits .f32 0x00000000#32) ss (ix2 j d)
      = ss (ix2 j d) * (∑ x : Fin 16, Scalar.select (IntOp.cmpi .eq (BitVec.ofNat 32 j.val) (BitVec.ofNat 32 x.val)) (sc (ix2 0 x)) 0)
        + ∑ i : Fin 2048, Scalar.select (mk (ix2 i j)) (E (ix2 i j) * xb (ix2 i d)) 0 := by
    pointwise [k0_pay4, k0_pay1, k0_pay3]
  rw [e]
  simp only [select_eq, ofNat_inj16, Finset.sum_ite_eq, Finset.mem_univ, if_true]
  congr 1
  refine Finset.sum_congr rfl fun i _ => ?_
  rcases BitVec.eq_zero_or_eq_one (mk (ix2 i j)) with h | h <;> rw [h] <;> simp [Scalar.select]

/-- The output block: the pooled array through the closing layers. -/
theorem pay5_at (ss : Vec Ideal S1x16 .f32) (ac : Vec Ideal S16x512 .f32) (wf1 : Vec Ideal S512x512 .f32) (bf1 : Vec Ideal S1x512 .f32) (wf2 : Vec Ideal S512x2 .f32) (bf2 : Vec Ideal S1x2 .f32) (j : Fin 16) (o : Fin 2) :
    k0_pay5 (F := Ideal) ss ac wf1 bf1 wf2 bf2 (ix2 j o)
      = ∑ b : Fin 512, max (∑ a : Fin 512, (if (0 : EReal) < ss (ix2 0 j) then Ideal.div (ac (ix2 j a)) (ss (ix2 0 j)) else 0) * wf1 (ix2 a b) + bf1 (ix2 0 b)) 0 * wf2 (ix2 b o) + bf2 (ix2 0 o) := by
  have d : ∀ j : Fin 16, (∑ x : Fin 16, Scalar.select (IntOp.cmpi .eq (BitVec.ofNat 32 j.val) (BitVec.ofNat 32 x.val)) (ss (ix2 0 x)) 0 : EReal) = ss (ix2 0 j) := by
    intro j
    simp only [select_eq, ofNat_inj16, Finset.sum_ite_eq, Finset.mem_univ, if_true]
  rw [← d j]
  pointwise [k0_pay5, k0_pay3]

/-- The running maximum starts at the kernel's mask value. -/
theorem pay7_at (z : Fin 1) (j : Fin 16) : k0_pay7 (F := Ideal) (ix2 z j) = Ideal.ofBits FTy.f32 0xF149F2CA#32 := by
  pointwise [k0_pay7]

/-- The running denominator starts at zero. -/
theorem pay8_at (z : Fin 1) (j : Fin 16) : k0_pay8 (F := Ideal) (ix2 z j) = 0 := by
  pointwise [k0_pay8]

/-- The running weighted sum starts at zero. -/
theorem pay9_at (z : Fin 16) (j : Fin 512) : k0_pay9 (F := Ideal) (ix2 z j) = 0 := by
  pointwise [k0_pay9]

end Cert.KernelIdeal.Pt

end
-- ==== Proof.Logit.lean ====
module

public import proofs.«01_k».proof.Proof.Soft
public import Idealize.ShloMosaic.Lib.Pointwise

/-! The token logit both programs compute, as one formula over the arguments. -/

@[expose] public section

noncomputable section

namespace Cert.Soft

open Idealize.ShloMosaic

/-- The first hidden layer's projection of segment `s`'s vector: the lower rows of `W1` and the bias. -/
def low (e : (⟨2, ![16, 2560]⟩ : Shape).Idx → EReal) (W1 : (⟨2, ![3072, 512]⟩ : Shape).Idx → EReal)
    (b1 : (⟨1, ![512]⟩ : Shape).Idx → EReal) (s : Fin 16) (n : Fin 512) : EReal :=
  ∑ k : Fin 2560, e (ix2 s k) * W1 (ix2 (⟨512 + k.val, by omega⟩ : Fin 3072) n) + b1 (ix1 n)

/-- The upper rows of `W1` applied to token `t`. -/
def upp (x : (⟨2, ![32768, 512]⟩ : Shape).Idx → EReal) (W1 : (⟨2, ![3072, 512]⟩ : Shape).Idx → EReal) (t : Fin 32768) (n : Fin 512) : EReal :=
  ∑ k : Fin 512, x (ix2 t k) * W1 (ix2 (⟨k.val, by omega⟩ : Fin 3072) n)

/-- From the first layer's sums to the logit: two rectified layers and a linear one. -/
def head (W2 : (⟨2, ![512, 512]⟩ : Shape).Idx → EReal) (b2 : (⟨1, ![512]⟩ : Shape).Idx → EReal)
    (W3 : (⟨2, ![512, 1]⟩ : Shape).Idx → EReal) (b3 : (⟨1, ![1]⟩ : Shape).Idx → EReal) (h : Fin 512 → EReal) : EReal :=
  ∑ b : Fin 512, max (∑ a : Fin 512, max (h a) 0 * W2 (ix2 a b) + b2 (ix1 b)) 0 * W3 (ix2 b 0) + b3 (ix1 0)

/-- The logit of token `t` joined to segment `s`'s vector. -/
def Lg (e : (⟨2, ![16, 2560]⟩ : Shape).Idx → EReal) (x : (⟨2, ![32768, 512]⟩ : Shape).Idx → EReal)
    (W1 : (⟨2, ![3072, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 1]⟩ : Shape).Idx → EReal) (b3 : (⟨1, ![1]⟩ : Shape).Idx → EReal) (t : Fin 32768) (s : Fin 16) : EReal :=
  head W2 b2 W3 b3 fun n => upp x W1 t n + low e W1 b1 s n

/-- Of real arguments the logit is real. -/
theorem Lg_real {e : (⟨2, ![16, 2560]⟩ : Shape).Idx → EReal} {x : (⟨2, ![32768, 512]⟩ : Shape).Idx → EReal}
    {W1 : (⟨2, ![3072, 512]⟩ : Shape).Idx → EReal} {b1 : (⟨1, ![512]⟩ : Shape).Idx → EReal}
    {W2 : (⟨2, ![512, 512]⟩ : Shape).Idx → EReal} {b2 : (⟨1, ![512]⟩ : Shape).Idx → EReal}
    {W3 : (⟨2, ![512, 1]⟩ : Shape).Idx → EReal} {b3 : (⟨1, ![1]⟩ : Shape).Idx → EReal}
    (he : ∀ i, IsReal (e i)) (hx : ∀ i, IsReal (x i)) (hW1 : ∀ i, IsReal (W1 i)) (hb1 : ∀ i, IsReal (b1 i))
    (hW2 : ∀ i, IsReal (W2 i)) (hb2 : ∀ i, IsReal (b2 i)) (hW3 : ∀ i, IsReal (W3 i)) (hb3 : ∀ i, IsReal (b3 i))
    (t : Fin 32768) (s : Fin 16) : IsReal (Lg e x W1 b1 W2 b2 W3 b3 t s) := by
  unfold Lg head upp low
  refine (IsReal.sum _ _ fun b => (((IsReal.sum _ _ fun a => (IsReal.max ?_ isReal_zero).mul (hW2 _)).add (hb2 _)).max isReal_zero).mul (hW3 _)).add (hb3 _)
  exact (IsReal.sum _ _ fun k => (hx _).mul (hW1 _)).add ((IsReal.sum _ _ fun k => (he _).mul (hW1 _)).add (hb1 _))

/-- The closing layers, of a pooled array. -/
def fc (Wf1 : (⟨2, ![512, 512]⟩ : Shape).Idx → EReal) (bf1 : (⟨1, ![512]⟩ : Shape).Idx → EReal)
    (Wf2 : (⟨2, ![512, 2]⟩ : Shape).Idx → EReal) (bf2 : (⟨1, ![2]⟩ : Shape).Idx → EReal) (P : Fin 16 → Fin 512 → EReal) (j : Fin 16) (o : Fin 2) : EReal :=
  ∑ b : Fin 512, max (∑ a : Fin 512, P j a * Wf1 (ix2 a b) + bf1 (ix1 b)) 0 * Wf2 (ix2 b o) + bf2 (ix1 o)

end Cert.Soft

end
-- ==== Proof.Blocks.lean ====
module

public import proofs.«01_k».proof.Proof.KernelOut
public import proofs.«01_k».proof.Proof.KernelPt
public import proofs.«01_k».proof.Proof.Logit

/-! The blocks of the kernel's grid points, read at an index in terms of the arguments. -/

@[expose] public section

set_option maxRecDepth 16384

noncomputable section

namespace Cert.KernelIdeal.Blk

open Cert.KernelIdeal.Gen Cert.KernelIdeal.Run
open Idealize.ShloMosaic Idealize.ShloMosaic.TcCoe

variable (m : (ℓ : Loc nD τ sig) → Buf (Elt Ideal) ℓ) (c : Dev nD)

/-- The token that stands at row `i` of block `k`. -/
def gt (k : ℕ) (hk : k < 16) (i : Fin 2048) : Fin 32768 := ⟨2048 * k + i.val, by omega⟩

/-- The arguments, each at its shape. -/
abbrev aIo : (⟨2, ![16, 2560]⟩ : Shape).Idx → EReal := shapeCast S16x2560 (m ((c : Thread nD τ).loc main_arg0)) shapeCasts_S16x5x512_S16x2560
abbrev aX : (⟨2, ![32768, 512]⟩ : Shape).Idx → EReal := m ((c : Thread nD τ).loc main_arg1)
abbrev aId : IVec S32768 32 := m ((c : Thread nD τ).loc main_arg2)
abbrev aW1 : (⟨2, ![3072, 512]⟩ : Shape).Idx → EReal := m ((c : Thread nD τ).loc main_arg3)
abbrev aB1 : (⟨1, ![512]⟩ : Shape).Idx → EReal := m ((c : Thread nD τ).loc main_arg4)
abbrev aW2 : (⟨2, ![512, 512]⟩ : Shape).Idx → EReal := m ((c : Thread nD τ).loc main_arg5)
abbrev aB2 : (⟨1, ![512]⟩ : Shape).Idx → EReal := m ((c : Thread nD τ).loc main_arg6)
abbrev aW3 : (⟨2, ![512, 1]⟩ : Shape).Idx → EReal := m ((c : Thread nD τ).loc main_arg7)
abbrev aB3 : (⟨1, ![1]⟩ : Shape).Idx → EReal := m ((c : Thread nD τ).loc main_arg8)
abbrev aF1 : (⟨2, ![512, 512]⟩ : Shape).Idx → EReal := m ((c : Thread nD τ).loc main_arg9)
abbrev aG1 : (⟨1, ![512]⟩ : Shape).Idx → EReal := m ((c : Thread nD τ).loc main_arg10)
abbrev aF2 : (⟨2, ![512, 2]⟩ : Shape).Idx → EReal := m ((c : Thread nD τ).loc main_arg11)
abbrev aG2 : (⟨1, ![2]⟩ : Shape).Idx → EReal := m ((c : Thread nD τ).loc main_arg12)

/-- A block of the token array, read at a row and a feature. -/
theorem xblk_at (W : HbBuf0 (F := Ideal) c hbM0_0) (b : Fin 16) (i : Fin 2048) (d : Fin 512) :
    xblk c W b (ix3 0 i d) = (W : (⟨2, ![32768, 512]⟩ : Shape).Idx → EReal) (ix2 (gt b.val b.isLt i) d) := by
  have e : xblk c W b (ix3 0 i d) = ((srcB0_0 b).view.read (Elt Ideal) W) (ix2 i d) := by
    unfold xblk
    generalize ((srcB0_0 b).view.read (Elt Ideal) W) = w
    pointwise
  rw [e]
  show W ((srcB0_0 b).view.emb (ix2 i d)) = _
  refine congrArg W ?_
  funext a; apply Fin.ext
  match a with
  | ⟨0, _⟩ => show 2048 * b.val + 1 * i.val = 2048 * b.val + i.val; omega
  | ⟨1, _⟩ => show 0 + 1 * d.val = d.val; omega

/-- The tokens of grid point `k` are rows `2048 k` and on of the token array. -/
theorem tok_at (k : ℕ) (hk : k < 16) (i : Fin 2048) (d : Fin 512) :
    tok m c k (ix3 0 i d) = aX m c (ix2 (gt k hk i) d) := by
  unfold tok
  rw [xblk_at]
  have e : V m c main_arg1 = m ((c : Thread nD τ).loc main_arg1) := V_main_arg1 m c
  rw [e]
  refine congrArg (fun t => aX m c (ix2 t d)) (Fin.ext ?_)
  show 2048 * (k % 16) + i.val = 2048 * k + i.val
  rw [Nat.mod_eq_of_lt hk]

/-- The ids of grid point `k` are those tokens' ids. -/
theorem ids_at (k : ℕ) (hk : k < 16) (i : Fin 2048) :
    (iblk m c 0 (pt k) : Vec Ideal S1x2048x1 .i32) (ix3 0 i 0) = aId m c (ix1 (gt k hk i)) := by
  have e := iblk0 m c (pt k) 0 i 0
  have e0 : (ix3 (0 : Fin 1) i (0 : Fin 1)) = (fun | ⟨0, _⟩ => (0 : Fin 1) | ⟨1, _⟩ => i | ⟨2, _⟩ => (0 : Fin 1) : S1x2048x1.Idx) := by
    funext a; match a with | ⟨0, _⟩ => rfl | ⟨1, _⟩ => rfl | ⟨2, _⟩ => rfl
  rw [e0]
  have e1 : (fun | ⟨0, _⟩ => ⟨(pt k).val, lt_of_lt_of_eq (pt k).isLt (show cfg0.N = 16 from N_0)⟩ | ⟨1, _⟩ => i | ⟨2, _⟩ => (0 : Fin 1) : S16x2048x1.Idx)
      = ix3 (⟨k, hk⟩ : Fin 16) i (0 : Fin 1) := by
    funext a
    match a with
    | ⟨0, _⟩ => exact Fin.ext (Nat.mod_eq_of_lt hk)
    | ⟨1, _⟩ => rfl
    | ⟨2, _⟩ => rfl
  have e2 : shapeCast S16x2048x1 (m ((c : Thread nD τ).loc main_arg2)) shapeCasts_S32768_S16x2048x1 (ix3 (⟨k, hk⟩ : Fin 16) i (0 : Fin 1)) = aId m c (ix1 (gt k hk i)) := by
    pointwise
    exact congrArg (fun t => aId m c (ix1 t)) (Fin.ext (by show k * 2048 + i.val = 2048 * k + i.val; omega))
  exact e.trans ((congrArg (V m c main_v4 : Vec Ideal S16x2048x1 .i32) e1).trans ((congrFun (V_main_v4 m c) _).trans e2))

/-- The kernel's upper part of `W1`. -/
theorem x2_at (k : ℕ) (a b : Fin 512) : k0_pay13 (F := Ideal) (iblk m c 2 (pt k)) (ix2 a b) = aW1 m c (ix2 (⟨a.val, by omega⟩ : Fin 3072) b) := by
  rw [iblk2, V_main_v2]
  pointwise [k0_pay13]

/-- The kernel's `W2`. -/
theorem x5_at (k : ℕ) (a b : Fin 512) : (iblk m c 5 (pt k) : Vec Ideal S512x512 .bf16) (ix2 a b) = aW2 m c (ix2 a b) := by
  rw [iblk5, V_main_v6]
  pointwise

/-- The kernel's second bias. -/
theorem x6_at (k : ℕ) (b : Fin 512) : (iblk m c 6 (pt k) : Vec Ideal S1x512 .f32) (ix2 0 b) = aB2 m c (ix1 b) := by
  rw [iblk6, V_main_v7]
  pointwise

/-- Each of the sixteen columns the kernel multiplies by is `W3`. -/
theorem x7_at (k : ℕ) (b : Fin 512) (j : Fin 16) : (iblk m c 7 (pt k) : Vec Ideal S512x16 .f32) (ix2 b j) = aW3 m c (ix2 b 0) := by
  rw [iblk7, V_main_v8]
  pointwise

/-- The kernel's third bias. -/
theorem x8_at (k : ℕ) : (iblk m c 8 (pt k) : Vec Ideal S1x1 .f32) (ix2 0 0) = aB3 m c (ix1 0) := by
  rw [iblk8, V_main_v9]
  pointwise

/-- The kernel's `Wf1`. -/
theorem f1_at (k : ℕ) (a b : Fin 512) : (iblk m c 9 (pt k) : Vec Ideal S512x512 .f32) (ix2 a b) = aF1 m c (ix2 a b) := by
  rw [iblk9]
  exact congrFun (V_main_arg9 m c) _

/-- The kernel's bias of the first closing layer. -/
theorem g1_at (k : ℕ) (b : Fin 512) : (iblk m c 10 (pt k) : Vec Ideal S1x512 .f32) (ix2 0 b) = aG1 m c (ix1 b) := by
  rw [iblk10, V_main_v10]
  pointwise

/-- The kernel's `Wf2`. -/
theorem f2_at (k : ℕ) (a : Fin 512) (b : Fin 2) : (iblk m c 11 (pt k) : Vec Ideal S512x2 .f32) (ix2 a b) = aF2 m c (ix2 a b) := by
  rw [iblk11]
  exact congrFun (V_main_arg11 m c) _

/-- The kernel's bias of the second closing layer. -/
theorem g2_at (k : ℕ) (b : Fin 2) : (iblk m c 12 (pt k) : Vec Ideal S1x2 .f32) (ix2 0 b) = aG2 m c (ix1 b) := by
  rw [iblk12, V_main_v11]
  pointwise

/-- The segments' first-layer sums, in terms of the arguments. -/
theorem sb_at (s : Fin 16) (n : Fin 512) : sbV m c (ix2 s n) = Soft.low (aIo m c) (aW1 m c) (aB1 m c) s n := by
  unfold sbV Soft.low
  refine (Pt.pay6_at _ _ _ s n).trans ?_
  rw [iblk1, iblk3, iblk4, V_main_v0, V_main_v3, V_main_v5]
  pointwise

end Cert.KernelIdeal.Blk

end
-- ==== Proof.StepVal.lean ====
module

public import proofs.«01_k».proof.Proof.KernelPt
public import proofs.«01_k».proof.Proof.Logit

/-! One grid point of the kernel, at one segment: the running maximum stays a real number, and the running denominator and weighted sums
    stay sums of exponentials about it. -/

@[expose] public section

set_option maxRecDepth 16384

noncomputable section

namespace Cert.KernelIdeal.Pt

open Cert.KernelIdeal.Gen Cert.KernelIdeal.Run
open Idealize.ShloMosaic Idealize.ShloMosaic.TcCoe

section
variable (xb : Vec Ideal S1x2048x512 .f32) (x0 : Vec Ideal S1x2048x1 .i32) (x2 : Vec Ideal S512x512 .bf16) (x5 : Vec Ideal S512x512 .bf16)
  (x6 : Vec Ideal S1x512 .f32) (x7 : Vec Ideal S512x16 .f32) (x8 : Vec Ideal S1x1 .f32) (sb : Vec Ideal S16x512 .bf16) (mm : Vec Ideal S1x16 .f32)

/-- The block's logits at row `i`, column `j`. -/
abbrev lgB (i : Fin 2048) (j : Fin 16) : EReal :=
  k0_pay14 (F := Ideal) (k0_pay10 xb) (k0_pay12 x0) (k0_pay13 x2) (constant S2048x512 .f32 0x00000000#32) sb x5 x6 x7 x8 (ix2 i j)

/-- A token whose id is `j` meets segment `j`'s first-layer sums: its logit in column `j`. -/
theorem lgB_at (i : Fin 2048) (j : Fin 16) (h : BitVec.ofNat 32 j.val = x0 (ix3 0 i 0)) :
    lgB xb x0 x2 x5 x6 x7 x8 sb i j
      = ∑ b : Fin 512, max (∑ a : Fin 512, max (∑ k : Fin 512, xb (ix3 0 i k) * k0_pay13 (F := Ideal) x2 (ix2 k a) + sb (ix2 j a)) 0 * x5 (ix2 a b) + x6 (ix2 0 b)) 0
          * x7 (ix2 b j) + x8 (ix2 0 0) := by
  have e : ∀ a : Fin 512, (∑ s : Fin 16, k0_pay12 (F := Ideal) x0 (ix2 i s) * sb (ix2 s a) : EReal) = sb (ix2 j a) := by
    intro a
    simp only [pay12_at, ← h, ofNat_inj16, ite_mul, one_mul, zero_mul, Finset.sum_ite_eq', Finset.mem_univ, if_true]
  unfold lgB
  rw [pay14_at]
  simp only [e, pay10_at]

/-- ONE POINT. From a real maximum and sums of exponentials about it over the tokens `s` met so far, a point leaves a real maximum
    and the sums about it over those tokens and the block's tokens of segment `j`. -/
theorem step_at {ι : Type*} (s : Finset ι) (L : ι → ℝ) (Y : ι → Fin 512 → ℝ) (j : Fin 16) (ℓ : Fin 2048 → ℝ) (X : Fin 2048 → Fin 512 → ℝ)
    (hℓ : ∀ i, BitVec.ofNat 32 j.val = x0 (ix3 0 i 0) → lgB xb x0 x2 x5 x6 x7 x8 sb i j = (ℓ i : EReal))
    (hX : ∀ i d, xb (ix3 0 i d) = (X i d : EReal))
    (ss : Vec Ideal S1x16 .f32) (ac : Vec Ideal S16x512 .f32) (M : ℝ) (hM : mm (ix2 0 j) = (M : EReal))
    (hS : ss (ix2 0 j) = ((∑ t ∈ s, Real.exp (L t - M) : ℝ) : EReal))
    (hA : ∀ d, ac (ix2 j d) = ((∑ t ∈ s, Real.exp (L t - M) * Y t d : ℝ) : EReal)) :
    ∃ M' : ℝ, stepM xb x0 x2 x5 x6 x7 x8 sb mm (ix2 0 j) = (M' : EReal)
      ∧ stepS xb x0 x2 x5 x6 x7 x8 sb mm ss (ix2 0 j)
        = ((∑ t ∈ s, Real.exp (L t - M') + ∑ i ∈ Finset.univ.filter (fun i => BitVec.ofNat 32 j.val = x0 (ix3 0 i 0)), Real.exp (ℓ i - M') : ℝ) : EReal)
      ∧ ∀ d, stepA xb x0 x2 x5 x6 x7 x8 sb mm ac (ix2 j d)
        = ((∑ t ∈ s, Real.exp (L t - M') * Y t d
            + ∑ i ∈ Finset.univ.filter (fun i => BitVec.ofNat 32 j.val = x0 (ix3 0 i 0)), Real.exp (ℓ i - M') * X i d : ℝ) : EReal) := by
  have hm : Soft.IsReal (k0_pay15 (F := Ideal) (k0_pay10 xb) (k0_pay11 x0) (k0_pay12 x0) (k0_pay13 x2) (constant S2048x512 .f32 0x00000000#32) sb x5 x6 x7 x8 mm (ix2 0 j)) := by
    rw [pay15_at, ninf_bot]
    refine Soft.max_fold_real _ _ (fun i => ?_) ⟨M, hM⟩
    rw [pay11_at, select_eq]
    split
    · next h => exact ⟨ℓ i, hℓ i h⟩
    · exact neg_real
  obtain ⟨M', hM'⟩ := hm
  have hE : ∀ i, BitVec.ofNat 32 j.val = x0 (ix3 0 i 0) →
      k0_pay18 (F := Ideal) (k0_pay10 xb) (k0_pay11 x0) (k0_pay12 x0) (k0_pay13 x2) (constant S2048x512 .f32 0x00000000#32) sb x5 x6 x7 x8 mm (ix2 i j)
        = Ideal.exp ((ℓ i : EReal) - (M' : EReal)) := by
    intro i h
    rw [pay18_at, hM', ← hℓ i h]
  have hsc : k0_pay16 (F := Ideal) (k0_pay10 xb) (k0_pay11 x0) (k0_pay12 x0) (k0_pay13 x2) (constant S2048x512 .f32 0x00000000#32) sb x5 x6 x7 x8 mm (ix2 0 j)
        = Ideal.exp ((M : EReal) - (M' : EReal)) := by
    rw [pay16_at, hM', hM]
  refine ⟨M', ?_, ?_, ?_⟩
  · rw [← hM']
    unfold stepM
    pointwise [k0_pay17]
  · unfold stepS
    rw [pay2_at, hS, hsc]
    have key : ∀ i : Fin 2048, (Scalar.select (k0_pay11 (F := Ideal) x0 (ix2 i j))
        (k0_pay18 (F := Ideal) (k0_pay10 xb) (k0_pay11 x0) (k0_pay12 x0) (k0_pay13 x2) (constant S2048x512 .f32 0x00000000#32) sb x5 x6 x7 x8 mm (ix2 i j)) 0 : EReal)
        = if BitVec.ofNat 32 j.val = x0 (ix3 0 i 0) then Ideal.exp ((ℓ i : EReal) - (M' : EReal)) * ((1 : ℝ) : EReal) else 0 := by
      intro i
      rw [pay11_at, select_eq]
      split
      · next h => rw [hE i h, EReal.coe_one, mul_one]
      · rfl
    rw [Finset.sum_congr rfl fun i _ => key i]
    have q := Soft.step_sum s (Finset.univ : Finset (Fin 2048)) (fun i => BitVec.ofNat 32 j.val = x0 (ix3 0 i 0)) L (fun _ => 1) ℓ (fun _ => 1) M M'
    simp only [mul_one] at q ⊢
    simpa only [EReal.coe_one, mul_one] using q
  · intro d
    unfold stepA
    rw [pay4_at, hA, hsc]
    have key : ∀ i : Fin 2048, (Scalar.select (k0_pay11 (F := Ideal) x0 (ix2 i j))
        (k0_pay18 (F := Ideal) (k0_pay10 xb) (k0_pay11 x0) (k0_pay12 x0) (k0_pay13 x2) (constant S2048x512 .f32 0x00000000#32) sb x5 x6 x7 x8 mm (ix2 i j)) 0 * k0_pay10 (F := Ideal) xb (ix2 i d) : EReal)
        = if BitVec.ofNat 32 j.val = x0 (ix3 0 i 0) then Ideal.exp ((ℓ i : EReal) - (M' : EReal)) * (X i d : EReal) else 0 := by
      intro i
      rw [pay11_at, select_eq, pay10_at, hX]
      split
      · next h => rw [hE i h]
      · rw [zero_mul]
    rw [Finset.sum_congr rfl fun i _ => key i]
    exact Soft.step_sum s (Finset.univ : Finset (Fin 2048)) (fun i => BitVec.ofNat 32 j.val = x0 (ix3 0 i 0)) L (fun t => Y t d) ℓ (fun i => X i d) M M'

end

end Cert.KernelIdeal.Pt

end
-- ==== Proof.KernelVal.lean ====
module

public import proofs.«01_k».proof.Proof.Blocks
public import proofs.«01_k».proof.Proof.StepVal

/-! The kernel's run over its grid at one segment, and the result it stores. -/

@[expose] public section

set_option maxRecDepth 16384

noncomputable section

namespace Cert.KernelIdeal.Blk

open Cert.KernelIdeal.Gen Cert.KernelIdeal.Run Cert.KernelIdeal.Pt
open Idealize.ShloMosaic Idealize.ShloMosaic.TcCoe

/-- The tokens before block `k` that satisfy `p`. -/
def upTo (p : Fin 32768 → Prop) [DecidablePred p] (k : ℕ) : Finset (Fin 32768) := (Finset.univ.filter p).filter fun t => t.val < 2048 * k

/-- Before block 0 there is none. -/
theorem upTo_zero (p : Fin 32768 → Prop) [DecidablePred p] : upTo p 0 = ∅ := by
  unfold upTo
  exact Finset.filter_eq_empty_iff.2 fun t _ => by omega

/-- Before block 16 there are all of them. -/
theorem upTo_last (p : Fin 32768 → Prop) [DecidablePred p] : upTo p 16 = Finset.univ.filter p := by
  unfold upTo
  exact Finset.filter_true_of_mem fun t _ => by have := t.isLt; omega

/-- A sum over the tokens before block `k + 1` is the sum over those before block `k` and the block's own. -/
theorem sum_upTo_succ (p : Fin 32768 → Prop) [DecidablePred p] (k : ℕ) (hk : k < 16) (f : Fin 32768 → ℝ) :
    ∑ t ∈ upTo p (k + 1), f t = ∑ t ∈ upTo p k, f t + ∑ i ∈ Finset.univ.filter (fun i : Fin 2048 => p (gt k hk i)), f (gt k hk i) := by
  rw [← Finset.sum_filter_add_sum_filter_not (upTo p (k + 1)) (fun t => t.val < 2048 * k)]
  refine congrArg₂ (fun a b : ℝ => a + b) ?_ ?_
  · refine Finset.sum_congr (Finset.ext fun t => ?_) fun _ _ => rfl
    simp only [upTo, Finset.mem_filter, Finset.mem_univ, true_and]
    constructor
    · rintro ⟨⟨h1, _⟩, h3⟩; exact ⟨h1, h3⟩
    · rintro ⟨h1, h3⟩; exact ⟨⟨h1, by omega⟩, h3⟩
  · symm
    refine Finset.sum_bij (fun i _ => gt k hk i) ?_ ?_ ?_ ?_
    · intro i hi
      simp only [upTo, Finset.mem_filter, Finset.mem_univ, true_and] at hi ⊢
      refine ⟨⟨hi, ?_⟩, ?_⟩
      · show 2048 * k + i.val < 2048 * (k + 1); have := i.isLt; omega
      · show ¬ (2048 * k + i.val < 2048 * k); omega
    · intro a _ b _ h
      have : 2048 * k + a.val = 2048 * k + b.val := congrArg Fin.val h
      exact Fin.ext (by omega)
    · intro t ht
      simp only [upTo, Finset.mem_filter, Finset.mem_univ, true_and] at ht
      have e : gt k hk ⟨t.val - 2048 * k, by omega⟩ = t := Fin.ext (by show 2048 * k + (t.val - 2048 * k) = t.val; omega)
      exact ⟨⟨t.val - 2048 * k, by omega⟩, Finset.mem_filter.2 ⟨Finset.mem_univ _, by rw [e]; exact ht.1.1⟩, e⟩
    · intro i _; rfl

variable (m : (ℓ : Loc nD τ sig) → Buf (Elt Ideal) ℓ) (c : Dev nD)

/-- The common logit, of this program's arguments. -/
abbrev LgA (t : Fin 32768) (j : Fin 16) : EReal := Soft.Lg (aIo m c) (aX m c) (aW1 m c) (aB1 m c) (aW2 m c) (aB2 m c) (aW3 m c) (aB3 m c) t j

/-- Block `k`'s logit of a token of segment `j`, in column `j`, is the common one. -/
theorem blk_logit (k : ℕ) (hk : k < 16) (i : Fin 2048) (j : Fin 16)
    (h : BitVec.ofNat 32 j.val = (iblk m c 0 (pt k) : Vec Ideal S1x2048x1 .i32) (ix3 0 i 0)) :
    lgB (tok m c k) (iblk m c 0 (pt k)) (iblk m c 2 (pt k)) (iblk m c 5 (pt k)) (iblk m c 6 (pt k)) (iblk m c 7 (pt k)) (iblk m c 8 (pt k)) (sbV m c) i j
      = LgA m c (gt k hk i) j := by
  rw [lgB_at _ _ _ _ _ _ _ _ i j h]
  unfold LgA Soft.Lg Soft.head Soft.upp
  simp only [tok_at m c k hk, x2_at, sb_at, x5_at, x6_at, x7_at, x8_at]

/-- THE RUN at segment `j`: after `k` blocks the running maximum is real and the running sums are the sums of exponentials about it over
    the segment's tokens met so far. -/
theorem scr_at (j : Fin 16) (L : Fin 32768 → ℝ) (X : Fin 32768 → Fin 512 → ℝ)
    (hL : ∀ t, LgA m c t j = (L t : EReal)) (hX : ∀ t d, aX m c (ix2 t d) = (X t d : EReal)) (k : ℕ) (hk : k ≤ 16) :
    ∃ M : ℝ, (scr m c k).1 (ix2 0 j) = (M : EReal)
      ∧ (scr m c k).2.1 (ix2 0 j) = ((∑ t ∈ upTo (fun t => BitVec.ofNat 32 j.val = aId m c (ix1 t)) k, Real.exp (L t - M) : ℝ) : EReal)
      ∧ ∀ d, (scr m c k).2.2 (ix2 j d) = ((∑ t ∈ upTo (fun t => BitVec.ofNat 32 j.val = aId m c (ix1 t)) k, Real.exp (L t - M) * X t d : ℝ) : EReal) := by
  induction k with
  | zero =>
    obtain ⟨r, hr⟩ := neg_real
    refine ⟨r, (pay7_at 0 j).trans hr, ?_, fun d => ?_⟩
    · rw [upTo_zero, Finset.sum_empty]; exact pay8_at 0 j
    · rw [upTo_zero, Finset.sum_empty]; exact pay9_at j d
  | succ k ih =>
    have hk' : k < 16 := by omega
    obtain ⟨M, hM, hS, hA⟩ := ih hk'.le
    obtain ⟨M', h1, h2, h3⟩ := step_at (tok m c k) (iblk m c 0 (pt k)) (iblk m c 2 (pt k)) (iblk m c 5 (pt k)) (iblk m c 6 (pt k)) (iblk m c 7 (pt k)) (iblk m c 8 (pt k)) (sbV m c)
      (scr m c k).1 (upTo (fun t => BitVec.ofNat 32 j.val = aId m c (ix1 t)) k) L X j (fun i => L (gt k hk' i)) (fun i => X (gt k hk' i))
      (fun i h => (blk_logit m c k hk' i j h).trans (hL _)) (fun i d => (tok_at m c k hk' i d).trans (hX _ d))
      (scr m c k).2.1 (scr m c k).2.2 M hM hS hA
    have ef : (Finset.univ.filter fun i : Fin 2048 => BitVec.ofNat 32 j.val = (iblk m c 0 (pt k) : Vec Ideal S1x2048x1 .i32) (ix3 0 i 0))
        = Finset.univ.filter fun i : Fin 2048 => BitVec.ofNat 32 j.val = aId m c (ix1 (gt k hk' i)) :=
      Finset.filter_congr fun i _ => by rw [ids_at m c k hk' i]
    refine ⟨M', h1, ?_, fun d => ?_⟩
    · rw [sum_upTo_succ _ k hk']
      rw [ef] at h2
      exact h2
    · rw [sum_upTo_succ _ k hk']
      have h3' := h3 d
      rw [ef] at h3'
      exact h3'

/-- THE RESULT the kernel stores: the closing layers of the pooled rows, each a quotient of sums about some real shift. -/
theorem outV_at (hLr : ∀ t j, Soft.IsReal (LgA m c t j)) (hXr : ∀ i, Soft.IsReal (aX m c i)) (P : Fin 16 → Fin 512 → EReal)
    (hP : ∀ (j : Fin 16) (d : Fin 512) (L : Fin 32768 → ℝ) (X : Fin 32768 → ℝ) (M : ℝ), (∀ t, LgA m c t j = (L t : EReal)) → (∀ t, aX m c (ix2 t d) = (X t : EReal)) →
      P j d = if (0 : EReal) < ((∑ t ∈ Finset.univ.filter (fun t => BitVec.ofNat 32 j.val = aId m c (ix1 t)), Real.exp (L t - M) : ℝ) : EReal)
        then Ideal.div ((∑ t ∈ Finset.univ.filter (fun t => BitVec.ofNat 32 j.val = aId m c (ix1 t)), Real.exp (L t - M) * X t : ℝ) : EReal)
          ((∑ t ∈ Finset.univ.filter (fun t => BitVec.ofNat 32 j.val = aId m c (ix1 t)), Real.exp (L t - M) : ℝ) : EReal) else 0)
    (j : Fin 16) (o : Fin 2) : outV m c (pt 15) (ix2 j o) = Soft.fc (aF1 m c) (aG1 m c) (aF2 m c) (aG2 m c) P j o := by
  choose L hL using fun t => hLr t j
  choose X hX using fun (t : Fin 32768) (d : Fin 512) => hXr (ix2 t d)
  obtain ⟨M, _, hS, hA⟩ := scr_at m c j L X hL hX 16 le_rfl
  rw [upTo_last] at hS hA
  unfold outV Soft.fc
  rw [pay5_at]
  have e : (pt 15).val + 1 = 16 := rfl
  rw [e]
  have key : ∀ a : Fin 512, (if (0 : EReal) < (scr m c 16).2.1 (ix2 0 j) then Ideal.div ((scr m c 16).2.2 (ix2 j a)) ((scr m c 16).2.1 (ix2 0 j)) else 0 : EReal) = P j a := by
    intro a
    rw [hP j a L (fun t => X t a) M hL (fun t => hX t a), hS, hA]
  simp only [key, f1_at, g1_at, f2_at, g2_at]

end Cert.KernelIdeal.Blk

end
-- ==== Proof.RefPt.lean ====
module

public import proofs.«01_k».proof.Proof.Gen.ReferenceIdeal.Run
public import proofs.«01_k».proof.Proof.Logit
public import Idealize.ShloMosaic.Lib.Pointwise
public import Idealize.ShloMosaic.Lib.StableHlo.Predicate
public import Idealize.ShloMosaic.Lib.IdealHost

/-! The reference's result, cut into named stages. -/

@[expose] public section

set_option maxRecDepth 16384

noncomputable section

namespace Cert.ReferenceIdeal.Pt

open Cert.ReferenceIdeal Cert.ReferenceIdeal.Gen
open Idealize.ShloMosaic Idealize.ShloMosaic.TcCoe

variable {F : FTy → Type} [FloatOps F]

/-- The ids, a negative one moved up by 16. -/
def wid (ids : IVec S32768 32) : IVec S32768 32 :=
  select (cmpi .slt ids (broadcastInDim S32768 ![] bcast_S_S32768 (constantI S_ 32 0#32)))
    (addi ids (broadcastInDim S32768 ![] bcast_S_S32768 (constantI S_ 32 16#32))) ids

/-- Those, as a column. -/
def wcol (ids : IVec S32768 32) : IVec S32768x1 32 := broadcastInDim S32768x1 ![0] bcast_S32768_S32768x1_0 (wid ids)

/-- The ids themselves, as a column. -/
def icol (ids : IVec S32768 32) : IVec S32768x1 32 := broadcastInDim S32768x1 ![0] bcast_S32768_S32768x1_0 ids

/-- Which ids name a segment, as a column. -/
def inb (ids : IVec S32768 32) : IVec S32768x1 1 :=
  andi (cmpi .sge (wcol ids) (broadcastInDim S32768x1 ![] bcast_S_S32768x1 (constantI S_ 32 0#32)))
    (cmpi .sle (wcol ids) (broadcastInDim S32768x1 ![0, 1] bcast_S1x1_S32768x1_0_1 (broadcastInDim S1x1 ![1] bcast_S1_S1x1_1 (constantI S1 32 15#32))))

/-- Each token's segment vector. -/
def tail (e : FVec F S16x2560 .f32) (ids : IVec S32768 32) : FVec F S32768x2560 .f32 :=
  select (broadcastInDim S32768x2560 ![0] bcast_S32768_S32768x2560_0
      (Host.reduce IntOp.andi (inb ids) (constantI S_ 1 1#1) reducesTo_S32768x1_S32768_d1 h_S_))
    (Host.gather gather_S16x2560_S32768x1_S32768x2560_1_0_n_n_0_1_12560 e (wcol ids))
    (broadcastInDim S32768x2560 ![] bcast_S_S32768x2560 (constant S_ .f32 0x7FC00000#32))

/-- The first layer's sums. -/
def lay1 (x : FVec F S32768x512 .f32) (y : FVec F S32768x2560 .f32) (W1 : FVec F S3072x512 .f32) (b1 : FVec F S512 .f32) : FVec F S32768x512 .f32 :=
  addf (Host.dotGeneral dot_S32768x3072_S3072x512_S32768x512_1_0_0_1_n_n none
      (concatenate S32768x3072 1 [⟨S32768x512, x⟩, ⟨S32768x2560, y⟩] concatenates_S32768x512_S32768x2560_S32768x3072_d1) W1)
    (broadcastInDim S32768x512 ![0, 1] bcast_S1x512_S32768x512_0_1 (broadcastInDim S1x512 ![1] bcast_S512_S1x512_1 b1))

/-- The token logits off the first layer's sums. -/
def logits (h : FVec F S32768x512 .f32) (W2 : FVec F S512x512 .f32) (b2 : FVec F S512 .f32) (W3 : FVec F S512x1 .f32) (b3 : FVec F S1 .f32) : FVec F S32768 .f32 :=
  shapeCast S32768 (addf (Host.dotGeneral dot_S32768x512_S512x1_S32768x1_1_0_0_1_n_n none
      (maximumf (addf (Host.dotGeneral dot_S32768x512_S512x512_S32768x512_1_0_0_1_n_n none
          (maximumf h (broadcastInDim S32768x512 ![] bcast_S_S32768x512 (constant S_ .f32 0x00000000#32))) W2)
        (broadcastInDim S32768x512 ![0, 1] bcast_S1x512_S32768x512_0_1 (broadcastInDim S1x512 ![1] bcast_S512_S1x512_1 b2)))
        (broadcastInDim S32768x512 ![] bcast_S_S32768x512 (constant S_ .f32 0x00000000#32))) W3)
    (broadcastInDim S32768x1 ![0, 1] bcast_S1x1_S32768x1_0_1 (broadcastInDim S1x1 ![1] bcast_S1_S1x1_1 b3))) shapeCasts_S32768x1_S32768

/-- The logits row by segment, minus infinity off the segment. -/
def masked (ids : IVec S32768 32) (l : FVec F S32768 .f32) : FVec F S16x32768 .f32 :=
  select (cmpi .eq (broadcastInDim S16x32768 ![0, 1] bcast_S1x32768_S16x32768_0_1 (broadcastInDim S1x32768 ![1] bcast_S32768_S1x32768_1 ids))
      (broadcastInDim S16x32768 ![0, 1] bcast_S16x1_S16x32768_0_1 (broadcastInDim S16x1 ![0] bcast_S16_S16x1_0 (iotaInDim S16 32 0))))
    (broadcastInDim S16x32768 ![0, 1] bcast_S1x32768_S16x32768_0_1 (broadcastInDim S1x32768 ![1] bcast_S32768_S1x32768_1 l))
    (broadcastInDim S16x32768 ![] bcast_S_S16x32768 (id (constant S_ .f32 0xFF800000#32)))

/-- Each segment's greatest logit. -/
def smax (ids : IVec S32768 32) (l : FVec F S32768 .f32) : FVec F S16 .f32 :=
  Host.reduce FloatOps.maximumf (masked ids l) (constant S_ .f32 0xFF800000#32) reducesTo_S16x32768_S16_d1 h_S_

/-- Each token's exponential, about its segment's greatest logit. -/
def ex (ids : IVec S32768 32) (l : FVec F S32768 .f32) : FVec F S32768 .f32 :=
  Host.exp (subf l (Host.gather gather_S16_S32768x1_S32768_n_0_n_n_0_1_1 (smax ids l) (wcol ids)))

/-- Each segment's denominator. -/
def den (ids : IVec S32768 32) (y : FVec F S32768 .f32) : FVec F S16 .f32 :=
  Host.scatterAdd scatter_S16_S32768x1_S32768_n_0_0_1 (broadcastInDim S16 ![] bcast_S_S16 (constant S_ .f32 0x00000000#32)) (icol ids) y

/-- Each token's softmax weight. -/
def wgt (ids : IVec S32768 32) (y : FVec F S32768 .f32) : FVec F S32768 .f32 :=
  Host.divf y (Host.gather gather_S16_S32768x1_S32768_n_0_n_n_0_1_1 (den ids y) (wcol ids))

/-- The pooled array. -/
def pooled (ids : IVec S32768 32) (w : FVec F S32768 .f32) (x : FVec F S32768x512 .f32) : FVec F S16x512 .f32 :=
  Host.scatterAdd scatter_S16x512_S32768x1_S32768x512_1_0_0_1 (broadcastInDim S16x512 ![] bcast_S_S16x512 (constant S_ .f32 0x00000000#32)) (icol ids)
    (mulf (broadcastInDim S32768x512 ![0, 1] bcast_S32768x1_S32768x512_0_1 (broadcastInDim S32768x1 ![0] bcast_S32768_S32768x1_0 w)) x)

/-- The closing layers. -/
def close (p : FVec F S16x512 .f32) (Wf1 : FVec F S512x512 .f32) (bf1 : FVec F S512 .f32) (Wf2 : FVec F S512x2 .f32) (bf2 : FVec F S2 .f32) : FVec F S16x2 .f32 :=
  addf (Host.dotGeneral dot_S16x512_S512x2_S16x2_1_0_0_1_n_n none
      (maximumf (addf (Host.dotGeneral dot_S16x512_S512x512_S16x512_1_0_0_1_n_n none p Wf1)
          (broadcastInDim S16x512 ![0, 1] bcast_S1x512_S16x512_0_1 (broadcastInDim S1x512 ![1] bcast_S512_S1x512_1 bf1)))
        (broadcastInDim S16x512 ![] bcast_S_S16x512 (constant S_ .f32 0x00000000#32))) Wf2)
    (broadcastInDim S16x2 ![0, 1] bcast_S1x2_S16x2_0_1 (broadcastInDim S1x2 ![1] bcast_S2_S1x2_1 bf2))

/-- The token logits of the arguments. -/
def lgs (m : (ℓ : Loc nD τ sig) → Buf (Elt F) ℓ) (c : Dev nD) : FVec F S32768 .f32 :=
  logits (lay1 (m ((c.tc : Thread nD τ).loc main_arg1))
      (tail (shapeCast S16x2560 (m ((c.tc : Thread nD τ).loc main_arg0)) shapeCasts_S16x5x512_S16x2560) (m ((c.tc : Thread nD τ).loc main_arg2)))
      (m ((c.tc : Thread nD τ).loc main_arg3)) (m ((c.tc : Thread nD τ).loc main_arg4)))
    (m ((c.tc : Thread nD τ).loc main_arg5)) (m ((c.tc : Thread nD τ).loc main_arg6)) (m ((c.tc : Thread nD τ).loc main_arg7)) (m ((c.tc : Thread nD τ).loc main_arg8))

/-- The reference's result is its stages, one after the other. -/
theorem res_eq (m : (ℓ : Loc nD τ sig) → Buf (Elt F) ℓ) (c : Dev nD) :
    Cert.ReferenceIdeal.Value.res_main_v61 m c
      = close (pooled (m ((c.tc : Thread nD τ).loc main_arg2)) (wgt (m ((c.tc : Thread nD τ).loc main_arg2)) (ex (m ((c.tc : Thread nD τ).loc main_arg2)) (lgs m c)))
          (m ((c.tc : Thread nD τ).loc main_arg1)))
        (m ((c.tc : Thread nD τ).loc main_arg9)) (m ((c.tc : Thread nD τ).loc main_arg10)) (m ((c.tc : Thread nD τ).loc main_arg11)) (m ((c.tc : Thread nD τ).loc main_arg12)) := by
  rfl

end Cert.ReferenceIdeal.Pt

end
-- ==== Proof.RefVal.lean ====
module

public import proofs.«01_k».proof.Proof.RefPt
public import Idealize.ShloMosaic.Lib.Routing.OpsPair
public import Idealize.ShloMosaic.Lib.Routing.Ops
public import Idealize.ShloMosaic.Lib.Routing.OpsSearch

/-! The reference's stages read at an index over the extended reals: the logits of a segment's tokens, the segment's maximum,
    and the pooled array as the softmax-weighted sum over the segment. -/

@[expose] public section

set_option maxRecDepth 16384

noncomputable section

namespace Cert.ReferenceIdeal.Pt

open Cert.ReferenceIdeal Cert.ReferenceIdeal.Gen
open Idealize.ShloMosaic Idealize.ShloMosaic.TcCoe

/-- The two spellings of a rank-2 index agree. -/
theorem vix2 {n m : Nat} (a : Fin n) (b : Fin m) : ValueIdx.ix2 a b = ix2 a b := by
  funext x; match x with | ⟨0, _⟩ => rfl | ⟨1, _⟩ => rfl

/-- The two spellings of a rank-1 index agree. -/
theorem vix1 {n : Nat} (a : Fin n) : ValueIdx.ix1 a = ix1 a := by
  funext x; match x with | ⟨0, _⟩ => rfl

/-- The tokens of segment `j`. -/
def seg (ids : IVec S32768 32) (j : Fin 16) : Finset (Fin 32768) := Finset.univ.filter fun t => BitVec.ofNat 32 j.val = ids (ix1 t)

/-- A token is of segment `j` just when its id's word is `j`'s. -/
theorem mem_seg {ids : IVec S32768 32} {j : Fin 16} {t : Fin 32768} : t ∈ seg ids j ↔ BitVec.ofNat 32 j.val = ids (ix1 t) := by
  simp [seg]

/-- An id read signed is `j` just when its word is `j`'s. -/
theorem toInt_eq (v : BitVec 32) (j : Fin 16) : v.toInt = (j.val : Int) ↔ BitVec.ofNat 32 j.val = v := by
  have hj : (BitVec.ofNat 32 j.val).toInt = (j.val : Int) := by revert j; decide
  constructor
  · intro h; exact BitVec.eq_of_toInt_eq (hj.trans h.symm)
  · intro h; rw [← h, hj]

/-! ## Gathers at a token of the segment -/

/-- The wrapped id of a token of segment `j` is `j`. -/
theorem wid_at (ids : IVec S32768 32) (t : Fin 32768) (j : Fin 16) (h : t ∈ seg ids j) : wid ids (ix1 t) = BitVec.ofNat 32 j.val := by
  have e : wid ids (ix1 t) = Scalar.select (IntOp.cmpi .slt (ids (ix1 t)) 0#32) (IntOp.addi (ids (ix1 t)) 16#32) (ids (ix1 t)) := by
    pointwise [wid]
  rw [e, ← mem_seg.1 h]
  exact Idealize.ShloMosaic.Routing.wrap_of_lt _ _ (by rw [BitVec.toNat_ofNat]; omega)

/-- So is its entry in the column of wrapped ids. -/
theorem wcol_at (ids : IVec S32768 32) (t : Fin 32768) (u : Fin 1) (j : Fin 16) (h : t ∈ seg ids j) : wcol ids (ix2 t u) = BitVec.ofNat 32 j.val := by
  have e : wcol ids (ix2 t u) = wid ids (ix1 t) := by pointwise [wcol]
  rw [e, wid_at ids t j h]

/-- The column of ids, read at a token. -/
theorem icol_at (ids : IVec S32768 32) (t : Fin 32768) (u : Fin 1) : icol ids (ix2 t u) = ids (ix1 t) := by
  pointwise [icol]

/-- The bounds check passes at a token of a segment. -/
theorem inb_at (ids : IVec S32768 32) (t : Fin 32768) (u : Fin 1) (j : Fin 16) (h : t ∈ seg ids j) : inb ids (ix2 t u) = 1#1 := by
  have e : inb ids (ix2 t u) = IntOp.andi (IntOp.cmpi CmpIPredicate.sge (wcol ids (ix2 t u)) 0#32) (IntOp.cmpi CmpIPredicate.sle (wcol ids (ix2 t u)) 15#32) := by
    pointwise [inb]
  rw [e, wcol_at ids t u j h]
  exact (by decide : ∀ j : Fin 16, IntOp.andi (IntOp.cmpi CmpIPredicate.sge (BitVec.ofNat 32 j.val) 0#32)
    (IntOp.cmpi CmpIPredicate.sle (BitVec.ofNat 32 j.val) 15#32) = 1#1) j

/-- A segment's token meets the segment's vector. -/
theorem tail_at (e : FVec Ideal S16x2560 .f32) (ids : IVec S32768 32) (t : Fin 32768) (k : Fin 2560) (j : Fin 16) (h : t ∈ seg ids j) :
    tail e ids (ix2 t k) = e (ix2 j k) := by
  have q : tail e ids (ix2 t k) = Scalar.select (Finset.fold IntOp.andi (1#1) (fun x => inb ids (ix2 t x)) Finset.univ)
      (Host.gather gather_S16x2560_S32768x1_S32768x2560_1_0_n_n_0_1_12560 e (wcol ids) (ix2 t k))
      (Ideal.ofBits FTy.f32 2143289344#32) := by
    pointwise [tail]
  have g : Host.gather gather_S16x2560_S32768x1_S32768x2560_1_0_n_n_0_1_12560 e (wcol ids) (ix2 t k) = e (ix2 j k) := by
    have g := Idealize.ShloMosaic.Routing.gather_row gather_S16x2560_S32768x1_S32768x2560_1_0_n_n_0_1_12560 rfl rfl rfl rfl rfl e (wcol ids) t k j
      (by rw [vix2]; exact wcol_at ids t 0 j h) (by norm_num)
    rwa [vix2, vix2] at g
  rw [q, Finset.univ_unique, Finset.fold_singleton, inb_at ids t _ j h, g]
  rfl

/-- A table of the segments, taken at a segment's token. -/
theorem take_at {α : Type} (v : S16.Idx → α) (ids : IVec S32768 32) (t : Fin 32768) (j : Fin 16) (h : t ∈ seg ids j) :
    Host.gather gather_S16_S32768x1_S32768_n_0_n_n_0_1_1 v (wcol ids) (ix1 t) = v (ix1 j) := by
  have e := StableHlo.Predicate.gather_take gather_S16_S32768x1_S32768_n_0_n_n_0_1_1 rfl rfl rfl rfl v (wcol ids) t (by norm_num)
  have e1 : (Shape.Idx.ofFin t : S32768.Idx) = ix1 t := by
    funext a; match a with | ⟨0, _⟩ => rfl
  have e2 : (StableHlo.Predicate.ixP t) = ix2 t 0 := by
    funext a; match a with | ⟨0, _⟩ => rfl | ⟨1, _⟩ => rfl
  rw [e1] at e
  refine e.trans (congrArg v ?_)
  funext a
  match a with
  | ⟨0, _⟩ =>
    apply Fin.ext
    show min (wcol ids (StableHlo.Predicate.ixP t)).toInt.toNat 15 = j.val
    rw [e2, wcol_at ids t 0 j h, (toInt_eq _ j).2 rfl]
    omega

/-! ## The logits -/

/-- The first layer before its rectifier: the product with the joined rows, split at the join. -/
theorem lay1_at (x : FVec Ideal S32768x512 .f32) (y : FVec Ideal S32768x2560 .f32) (W1 : FVec Ideal S3072x512 .f32) (b1 : FVec Ideal S512 .f32) (t : Fin 32768) (n : Fin 512) :
    lay1 x y W1 b1 (ix2 t n) = ∑ k : Fin 512, x (ix2 t k) * W1 (ix2 (⟨k.val, by omega⟩ : Fin 3072) n)
      + ∑ k : Fin 2560, y (ix2 t k) * W1 (ix2 (⟨512 + k.val, by omega⟩ : Fin 3072) n) + b1 (ix1 n) := by
  pointwise [lay1]

/-- From the first layer to the logit, at a token. -/
theorem logits_at (h : FVec Ideal S32768x512 .f32) (W2 : FVec Ideal S512x512 .f32) (b2 : FVec Ideal S512 .f32) (W3 : FVec Ideal S512x1 .f32) (b3 : FVec Ideal S1 .f32) (t : Fin 32768) :
    logits h W2 b2 W3 b3 (ix1 t) = Soft.head W2 b2 W3 b3 fun n => h (ix2 t n) := by
  unfold Soft.head
  pointwise [logits]

/-- The reference's logit of a segment's token is the common formula's. -/
theorem lgs_at (m : (ℓ : Loc nD τ sig) → Buf (Elt Ideal) ℓ) (c : Dev nD) (t : Fin 32768) (j : Fin 16)
    (h : t ∈ seg (m ((c.tc : Thread nD τ).loc main_arg2)) j) :
    lgs m c (ix1 t) = Soft.Lg (shapeCast S16x2560 (m ((c.tc : Thread nD τ).loc main_arg0)) shapeCasts_S16x5x512_S16x2560)
      (m ((c.tc : Thread nD τ).loc main_arg1)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) t j := by
  unfold lgs Soft.Lg
  rw [logits_at]
  congr 1
  funext n
  rw [lay1_at, add_assoc]
  simp only [fun k => tail_at (shapeCast S16x2560 (m ((c.tc : Thread nD τ).loc main_arg0)) shapeCasts_S16x5x512_S16x2560) _ t k j h]
  rfl

/-! ## The segment's maximum -/

/-- The segment's maximum: of the logits of its tokens, minus infinity elsewhere. -/
theorem smax_at (ids : IVec S32768 32) (l : FVec Ideal S32768 .f32) (j : Fin 16) :
    smax ids l (ix1 j) = Finset.univ.fold max ⊥ fun t => if ids (ix1 t) = BitVec.ofNat 32 j.val then l (ix1 t) else (⊥ : EReal) := by
  have e : ∀ t, masked ids l (ix2 j t) = if ids (ix1 t) = BitVec.ofNat 32 j.val then l (ix1 t) else (⊥ : EReal) := by
    intro t
    have q : masked ids l (ix2 j t) = Scalar.select (IntOp.cmpi .eq (ids (ix1 t)) (BitVec.ofNat 32 j.val)) (l (ix1 t)) (Ideal.ofBits FTy.f32 0xFF800000#32) := by
      pointwise [masked]
      rfl
    rw [q, show Ideal.ofBits FTy.f32 0xFF800000#32 = (⊥ : EReal) from by simp [Ideal.ofBits, Ideal.ieee]]
    by_cases h : ids (ix1 t) = BitVec.ofNat 32 j.val
    · rw [if_pos h, h]; simp [IntOp.cmpi, Scalar.select]
    · have hb : (ids (ix1 t) == BitVec.ofNat 32 j.val) = false := by simpa using h
      rw [if_neg h]; simp [IntOp.cmpi, Scalar.select, hb]
  have q : smax ids l (ix1 j) = Finset.fold max (Ideal.ofBits FTy.f32 0xFF800000#32) (fun x => masked ids l (ix2 j x)) Finset.univ := by
    pointwise [smax]
  rw [q, show Ideal.ofBits FTy.f32 0xFF800000#32 = (⊥ : EReal) from by simp [Ideal.ofBits, Ideal.ieee]]
  simp only [e]

/-- A segment with a token and real logits has a real maximum. -/
theorem smax_real (ids : IVec S32768 32) (l : FVec Ideal S32768 .f32) (j : Fin 16) (hl : ∀ t ∈ seg ids j, Soft.IsReal (l (ix1 t)))
    (t₀ : Fin 32768) (h₀ : t₀ ∈ seg ids j) : Soft.IsReal (smax ids l (ix1 j)) := by
  rw [smax_at]
  refine Soft.fold_real _ _ (fun t => ?_) (Finset.mem_univ t₀) ?_
  · by_cases h : ids (ix1 t) = BitVec.ofNat 32 j.val
    · left; rw [if_pos h]; exact hl t (mem_seg.2 h.symm)
    · right; rw [if_neg h]
  · rw [if_pos (mem_seg.1 h₀).symm]; exact hl t₀ h₀

/-- The exponential at a token of segment `j` is taken about that segment's maximum. -/
theorem ex_at (ids : IVec S32768 32) (l : FVec Ideal S32768 .f32) (t : Fin 32768) (j : Fin 16) (h : t ∈ seg ids j) :
    ex ids l (ix1 t) = Ideal.exp (l (ix1 t) - smax ids l (ix1 j)) := by
  rw [← take_at (smax ids l) ids t j h]
  pointwise [ex]

/-! ## The segment sums -/

/-- A scatter of one number per token adds up, at each segment, its tokens' numbers. -/
theorem den_at (ids : IVec S32768 32) (y : FVec Ideal S32768 .f32) (j : Fin 16) :
    den ids y (ix1 j) = 0 + ∑ t ∈ seg ids j, y (ix1 t) := by
  have ew : ∀ t : Fin 32768, scatter_S16_S32768x1_S32768_n_0_0_1.window (ix1 t) 0 = 0 := fun t => by
    unfold ScatterDims.window; rw [dif_neg (by decide)]
  have es : ∀ t : Fin 32768, scatter_S16_S32768x1_S32768_n_0_0_1.start (ix1 t) (icol ids) 0 = (ids (ix1 t)).toInt := fun t => by
    rw [← icol_at ids t 0]
    unfold ScatterDims.start
    rw [dif_pos (by decide)]
    congr 2
    funext b
    match b with
    | ⟨0, _⟩ => rfl
    | ⟨1, _⟩ => rfl
  show (broadcastInDim S16 ![] bcast_S_S16 (constant (F := Ideal) S_ .f32 0x00000000#32)) (ix1 j)
    + ∑ k ∈ Finset.univ.filter (fun k => scatter_S16_S32768x1_S32768_n_0_0_1.resultIdx? k (icol ids) = some (ix1 j)), y k = _
  have ez : (broadcastInDim S16 ![] bcast_S_S16 (constant (F := Ideal) S_ .f32 0x00000000#32)) (ix1 j) = (0 : EReal) := by pointwise
  rw [ez]
  refine congrArg (0 + ·) ?_
  unfold seg
  rw [Finset.sum_filter, Finset.sum_filter, sum_idx1]
  refine Finset.sum_congr rfl fun t _ => ?_
  have hc : scatter_S16_S32768x1_S32768_n_0_0_1.resultIdx? (ix1 t) (icol ids) = some (ix1 j) ↔ BitVec.ofNat 32 j.val = ids (ix1 t) := by
    rw [← vix1 j, Idealize.ShloMosaic.Routing.resultIdx?_ix1, es t, ew t, ← toInt_eq]; simp
  by_cases h : BitVec.ofNat 32 j.val = ids (ix1 t)
  · rw [if_pos h, if_pos (hc.2 h)]
  · rw [if_neg h, if_neg fun q => h (hc.1 q)]

/-- A scatter of one row per token adds up, at each segment, its tokens' rows. -/
theorem pooled_at (ids : IVec S32768 32) (w : FVec Ideal S32768 .f32) (x : FVec Ideal S32768x512 .f32) (j : Fin 16) (d : Fin 512) :
    pooled ids w x (ix2 j d) = 0 + ∑ t ∈ seg ids j, w (ix1 t) * x (ix2 t d) := by
  have ew0 : ∀ (t : Fin 32768) (d' : Fin 512), scatter_S16x512_S32768x1_S32768x512_1_0_0_1.window (ix2 t d') 0 = 0 := fun t d' => by
    unfold ScatterDims.window; rw [dif_neg (by decide)]
  have ew1 : ∀ (t : Fin 32768) (d' : Fin 512), scatter_S16x512_S32768x1_S32768x512_1_0_0_1.window (ix2 t d') 1 = d'.val := fun t d' => by
    unfold ScatterDims.window; rw [dif_pos (by decide)]; rfl
  have es0 : ∀ (t : Fin 32768) (d' : Fin 512), scatter_S16x512_S32768x1_S32768x512_1_0_0_1.start (ix2 t d') (icol ids) 0 = (ids (ix1 t)).toInt := fun t d' => by
    rw [← icol_at ids t 0]
    unfold ScatterDims.start
    rw [dif_pos (by decide)]
    congr 2
    funext b
    match b with
    | ⟨0, _⟩ => rfl
    | ⟨1, _⟩ => rfl
  have es1 : ∀ (t : Fin 32768) (d' : Fin 512), scatter_S16x512_S32768x1_S32768x512_1_0_0_1.start (ix2 t d') (icol ids) 1 = 0 := fun t d' => by
    unfold ScatterDims.start
    rw [dif_neg (by decide)]
  unfold pooled
  generalize hU : (mulf (broadcastInDim S32768x512 ![0, 1] bcast_S32768x1_S32768x512_0_1 (broadcastInDim S32768x1 ![0] bcast_S32768_S32768x1_0 w)) x) = U
  show (broadcastInDim S16x512 ![] bcast_S_S16x512 (constant (F := Ideal) S_ .f32 0x00000000#32)) (ix2 j d)
    + ∑ k ∈ Finset.univ.filter (fun k => scatter_S16x512_S32768x1_S32768x512_1_0_0_1.resultIdx? k (icol ids) = some (ix2 j d)), U k = _
  have ez : (broadcastInDim S16x512 ![] bcast_S_S16x512 (constant (F := Ideal) S_ .f32 0x00000000#32)) (ix2 j d) = (0 : EReal) := by pointwise
  rw [ez]
  refine congrArg (0 + ·) ?_
  unfold seg
  rw [Finset.sum_filter, Finset.sum_filter, sum_idx2]
  refine Finset.sum_congr rfl fun t _ => ?_
  have hc : ∀ d' : Fin 512, scatter_S16x512_S32768x1_S32768x512_1_0_0_1.resultIdx? (ix2 t d') (icol ids) = some (ix2 j d)
      ↔ BitVec.ofNat 32 j.val = ids (ix1 t) ∧ d' = d := fun d' => by
    rw [← vix2 j d, Idealize.ShloMosaic.Routing.resultIdx?_ix2, es0 t, ew0 t, es1 t, ew1 t, ← toInt_eq, Fin.ext_iff]; simp
  by_cases h : BitVec.ofNat 32 j.val = ids (ix1 t)
  · rw [if_pos h, Finset.sum_eq_single d]
    · rw [if_pos ((hc d).2 ⟨h, rfl⟩), ← hU]; pointwise
    · intro d' _ hd; rw [if_neg fun q => hd ((hc d').1 q).2]
    · intro q; exact absurd (Finset.mem_univ d) q
  · rw [if_neg h]
    exact Finset.sum_eq_zero fun d' _ => by rw [if_neg fun q => h ((hc d').1 q).1]

/-- THE POOLED ARRAY at segment `j`: the softmax-weighted sum over the segment's tokens. -/
theorem pool_ref (ids : IVec S32768 32) (l : FVec Ideal S32768 .f32) (x : FVec Ideal S32768x512 .f32) (j : Fin 16) (d : Fin 512) :
    pooled ids (wgt ids (ex ids l)) x (ix2 j d)
      = 0 + ∑ t ∈ seg ids j, Ideal.div (Ideal.exp (l (ix1 t) - smax ids l (ix1 j)))
          (0 + ∑ k ∈ seg ids j, Ideal.exp (l (ix1 k) - smax ids l (ix1 j))) * x (ix2 t d) := by
  have hden : den ids (ex ids l) (ix1 j) = 0 + ∑ k ∈ seg ids j, Ideal.exp (l (ix1 k) - smax ids l (ix1 j)) := by
    rw [den_at, Finset.sum_congr rfl fun k hk => ex_at ids l k j hk]
  have key : ∀ t ∈ seg ids j, wgt ids (ex ids l) (ix1 t)
      = Ideal.div (Ideal.exp (l (ix1 t) - smax ids l (ix1 j))) (den ids (ex ids l) (ix1 j)) := by
    intro t ht
    have q : wgt ids (ex ids l) (ix1 t)
        = Ideal.div (ex ids l (ix1 t)) (Host.gather gather_S16_S32768x1_S32768_n_0_n_n_0_1_1 (den ids (ex ids l)) (wcol ids) (ix1 t)) := by
      pointwise [wgt]
    rw [q, take_at _ ids t j ht, ex_at ids l t j ht]
  rw [pooled_at, ← hden, Finset.sum_congr rfl fun t ht => congrArg (· * x (ix2 t d)) (key t ht)]

/-- The closing layers, read at a segment and an output. -/
theorem close_at (p : FVec Ideal S16x512 .f32) (Wf1 : FVec Ideal S512x512 .f32) (bf1 : FVec Ideal S512 .f32) (Wf2 : FVec Ideal S512x2 .f32) (bf2 : FVec Ideal S2 .f32) (j : Fin 16) (o : Fin 2) :
    close p Wf1 bf1 Wf2 bf2 (ix2 j o) = Soft.fc Wf1 bf1 Wf2 bf2 (fun j a => p (ix2 j a)) j o := by
  unfold Soft.fc
  pointwise [close]

end Cert.ReferenceIdeal.Pt

end
-- ==== Proof.Finite.lean ====
module

public import proofs.«01_k».proof.Defs
public import proofs.«01_k».proof.Proof.Soft
public import proofs.«01_k».proof.Proof.Gen.KernelIdeal

/-! The precondition `finite_tokens`, read at an entry: every entry it constrains is a real number. -/

@[expose] public section

set_option maxRecDepth 16384

noncomputable section

namespace Cert.Fin

open Idealize.ShloMosaic

/-- The broadcasts of the precondition are well formed. -/
theorem facts : Cert.Pre_finite_tokens.Facts :=
  ⟨by decide, by decide, by decide, by decide, by decide, by decide, by decide⟩

/-- An extended real whose absolute value lies below infinity is real. -/
theorem isReal_of_abs_lt {x : EReal} (h : max x (-x) < ⊤) : Soft.IsReal x := by
  have h1 : x ≠ ⊤ := fun e => by subst e; simp at h
  have h2 : x ≠ ⊥ := fun e => by subst e; simp at h
  exact ⟨x.toReal, (EReal.coe_toReal h1 h2).symm⟩

/-- Where `abs a < inf` answers true everywhere, every entry of `a` is real. -/
theorem real_of_lt {s : Shape} (hb : Cert.Pre_finite_tokens.S_.BroadcastsInDim s (![] : Fin 0 → Fin s.rank)) (a : FVec Ideal s .f32)
    (h : cmpf .olt (Host.absf a) (broadcastInDim s ![] hb (constant Cert.Pre_finite_tokens.S_ .f32 0x7F800000#32)) = fun _ => 1#1)
    (i : s.Idx) : Soft.IsReal (a i) := by
  have h1 : BitVec.ofBool (decide (max (a i : EReal) (-(a i)) < Ideal.ofBits .f32 0x7F800000#32)) = 1#1 := congrFun h i
  have h2 : Ideal.ofBits .f32 0x7F800000#32 = ⊤ := by simp [Ideal.ofBits, Ideal.ieee]
  rw [h2] at h1
  refine isReal_of_abs_lt ?_
  by_contra hn
  rw [decide_eq_false hn] at h1
  exact absurd h1 (by decide)

variable (m : (ℓ : Loc KernelIdeal.nD KernelIdeal.τ KernelIdeal.sig) → Buf (Elt Ideal) ℓ)

/-- The eight arguments the precondition constrains have real entries. -/
theorem real_args [Cert.KernelIdeal.Facts] (h : Cert.Pre_KernelIdeal_finite_tokens (hPre_finite_tokens := facts) m) (c : Dev KernelIdeal.nD) :
    (∀ i, Soft.IsReal (m ((c.tc : Thread KernelIdeal.nD KernelIdeal.τ).loc KernelIdeal.main_arg0) i))
      ∧ (∀ i, Soft.IsReal (m ((c.tc : Thread KernelIdeal.nD KernelIdeal.τ).loc KernelIdeal.main_arg1) i))
      ∧ (∀ i, Soft.IsReal (m ((c.tc : Thread KernelIdeal.nD KernelIdeal.τ).loc KernelIdeal.main_arg3) i))
      ∧ (∀ i, Soft.IsReal (m ((c.tc : Thread KernelIdeal.nD KernelIdeal.τ).loc KernelIdeal.main_arg4) i))
      ∧ (∀ i, Soft.IsReal (m ((c.tc : Thread KernelIdeal.nD KernelIdeal.τ).loc KernelIdeal.main_arg5) i))
      ∧ (∀ i, Soft.IsReal (m ((c.tc : Thread KernelIdeal.nD KernelIdeal.τ).loc KernelIdeal.main_arg6) i))
      ∧ (∀ i, Soft.IsReal (m ((c.tc : Thread KernelIdeal.nD KernelIdeal.τ).loc KernelIdeal.main_arg7) i))
      ∧ (∀ i, Soft.IsReal (m ((c.tc : Thread KernelIdeal.nD KernelIdeal.τ).loc KernelIdeal.main_arg8) i)) := by
  obtain ⟨h0, h1, h3, h4, h5, h6, h7, h8⟩ := h c
  exact ⟨real_of_lt _ _ h0, real_of_lt _ _ h1, real_of_lt _ _ h3, real_of_lt _ _ h4, real_of_lt _ _ h5, real_of_lt _ _ h6,
    real_of_lt _ _ h7, real_of_lt _ _ h8⟩

end Cert.Fin

end
-- ==== Proof.Equal.lean ====
module

public import proofs.«01_k».proof.Proof.KernelVal
public import proofs.«01_k».proof.Proof.RefVal
public import proofs.«01_k».proof.Proof.Finite

/-! The kernel's result and the reference's are the same array, where the arguments agree and the constrained ones are real. -/

@[expose] public section

set_option maxRecDepth 16384

noncomputable section

namespace Cert.Equal

open Cert.KernelIdeal.Gen Cert.KernelIdeal.Run Cert.KernelIdeal.Blk Cert.ReferenceIdeal.Pt
open Idealize.ShloMosaic Idealize.ShloMosaic.TcCoe

/-- The pooled entry of the reference, of logits `L` and tokens `X` real on the segment, is the quotient of sums about any shift `M`. -/
theorem pool_quot (ids : IVec Cert.ReferenceIdeal.S32768 32) (l : FVec Ideal Cert.ReferenceIdeal.S32768 .f32) (x : FVec Ideal Cert.ReferenceIdeal.S32768x512 .f32)
    (j : Fin 16) (d : Fin 512) (L X : Fin 32768 → ℝ) (M : ℝ) (hL : ∀ t ∈ seg ids j, l (ix1 t) = (L t : EReal)) (hX : ∀ t, x (ix2 t d) = (X t : EReal)) :
    pooled ids (wgt ids (ex ids l)) x (ix2 j d)
      = if (0 : EReal) < ((∑ t ∈ seg ids j, Real.exp (L t - M) : ℝ) : EReal)
        then Ideal.div ((∑ t ∈ seg ids j, Real.exp (L t - M) * X t : ℝ) : EReal) ((∑ t ∈ seg ids j, Real.exp (L t - M) : ℝ) : EReal) else 0 := by
  rw [Soft.pool_eq (seg ids j) L X M (smax ids l (ix1 j)) fun t ht => smax_real ids l j (fun t ht => ⟨L t, hL t ht⟩) t ht, pool_ref]
  have e1 : ∑ k ∈ seg ids j, Ideal.exp (l (ix1 k) - smax ids l (ix1 j)) = ∑ k ∈ seg ids j, Ideal.exp ((L k : EReal) - smax ids l (ix1 j)) :=
    Finset.sum_congr rfl fun k hk => by rw [hL k hk]
  rw [e1]
  have e2 : ∀ D : EReal, ∑ t ∈ seg ids j, Ideal.div (Ideal.exp (l (ix1 t) - smax ids l (ix1 j))) D * x (ix2 t d)
      = ∑ t ∈ seg ids j, Ideal.div (Ideal.exp ((L t : EReal) - smax ids l (ix1 j))) D * (X t : EReal) :=
    fun D => Finset.sum_congr rfl fun t ht => by rw [hL t ht, hX t]
  rw [e2]

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- THE RESULTS AGREE: of agreeing arguments that meet the precondition, the array the kernel stores is the array the reference returns. -/
theorem out_eq (hp : Cert.Pre_KernelIdeal_finite_tokens (hPre_finite_tokens := Cert.Fin.facts) m)
    (e0 : m' ((c.tc : Thread ReferenceIdeal.nD ReferenceIdeal.τ).loc ReferenceIdeal.main_arg0) = m ((c.tc : Thread KernelIdeal.nD KernelIdeal.τ).loc KernelIdeal.main_arg0))
    (e1 : m' ((c.tc : Thread ReferenceIdeal.nD ReferenceIdeal.τ).loc ReferenceIdeal.main_arg1) = m ((c.tc : Thread KernelIdeal.nD KernelIdeal.τ).loc KernelIdeal.main_arg1))
    (e2 : m' ((c.tc : Thread ReferenceIdeal.nD ReferenceIdeal.τ).loc ReferenceIdeal.main_arg2) = m ((c.tc : Thread KernelIdeal.nD KernelIdeal.τ).loc KernelIdeal.main_arg2))
    (e3 : m' ((c.tc : Thread ReferenceIdeal.nD ReferenceIdeal.τ).loc ReferenceIdeal.main_arg3) = m ((c.tc : Thread KernelIdeal.nD KernelIdeal.τ).loc KernelIdeal.main_arg3))
    (e4 : m' ((c.tc : Thread ReferenceIdeal.nD ReferenceIdeal.τ).loc ReferenceIdeal.main_arg4) = m ((c.tc : Thread KernelIdeal.nD KernelIdeal.τ).loc KernelIdeal.main_arg4))
    (e5 : m' ((c.tc : Thread ReferenceIdeal.nD ReferenceIdeal.τ).loc ReferenceIdeal.main_arg5) = m ((c.tc : Thread KernelIdeal.nD KernelIdeal.τ).loc KernelIdeal.main_arg5))
    (e6 : m' ((c.tc : Thread ReferenceIdeal.nD ReferenceIdeal.τ).loc ReferenceIdeal.main_arg6) = m ((c.tc : Thread KernelIdeal.nD KernelIdeal.τ).loc KernelIdeal.main_arg6))
    (e7 : m' ((c.tc : Thread ReferenceIdeal.nD ReferenceIdeal.τ).loc ReferenceIdeal.main_arg7) = m ((c.tc : Thread KernelIdeal.nD KernelIdeal.τ).loc KernelIdeal.main_arg7))
    (e8 : m' ((c.tc : Thread ReferenceIdeal.nD ReferenceIdeal.τ).loc ReferenceIdeal.main_arg8) = m ((c.tc : Thread KernelIdeal.nD KernelIdeal.τ).loc KernelIdeal.main_arg8))
    (e9 : m' ((c.tc : Thread ReferenceIdeal.nD ReferenceIdeal.τ).loc ReferenceIdeal.main_arg9) = m ((c.tc : Thread KernelIdeal.nD KernelIdeal.τ).loc KernelIdeal.main_arg9))
    (e10 : m' ((c.tc : Thread ReferenceIdeal.nD ReferenceIdeal.τ).loc ReferenceIdeal.main_arg10) = m ((c.tc : Thread KernelIdeal.nD KernelIdeal.τ).loc KernelIdeal.main_arg10))
    (e11 : m' ((c.tc : Thread ReferenceIdeal.nD ReferenceIdeal.τ).loc ReferenceIdeal.main_arg11) = m ((c.tc : Thread KernelIdeal.nD KernelIdeal.τ).loc KernelIdeal.main_arg11))
    (e12 : m' ((c.tc : Thread ReferenceIdeal.nD ReferenceIdeal.τ).loc ReferenceIdeal.main_arg12) = m ((c.tc : Thread KernelIdeal.nD KernelIdeal.τ).loc KernelIdeal.main_arg12)) :
    Cert.ReferenceIdeal.Value.res_main_v61 m' c = outV m c (pt 15) := by
  obtain ⟨h0, h1, h3, h4, h5, h6, h7, h8⟩ := Cert.Fin.real_args m hp c
  have hIo : ∀ i, Soft.IsReal (aIo m c i) := fun i => h0 _
  have hL : ∀ t j, Soft.IsReal (LgA m c t j) := fun t j => Soft.Lg_real hIo h1 h3 h4 h5 h6 h7 h8 t j
  rw [res_eq m' c]
  funext i
  obtain ⟨j, o, rfl⟩ : ∃ (j : Fin 16) (o : Fin 2), i = ix2 j o := ⟨_, _, eq_ix2 i⟩
  refine (close_at _ _ _ _ _ j o).trans ?_
  rw [e9, e10, e11, e12]
  refine (outV_at m c hL h1 _ ?_ j o).symm
  intro j d L X M hl hx
  have hs : seg (m' ((c.tc : Thread ReferenceIdeal.nD ReferenceIdeal.τ).loc ReferenceIdeal.main_arg2)) j
      = Finset.univ.filter fun t => BitVec.ofNat 32 j.val = aId m c (ix1 t) := by
    rw [e2]; rfl
  have q := pool_quot (m' ((c.tc : Thread ReferenceIdeal.nD ReferenceIdeal.τ).loc ReferenceIdeal.main_arg2)) (lgs m' c)
    (m' ((c.tc : Thread ReferenceIdeal.nD ReferenceIdeal.τ).loc ReferenceIdeal.main_arg1)) j d L X M
    (fun t ht => by
      rw [lgs_at m' c t j ht, e0, e1, e3, e4, e5, e6, e7, e8]
      exact hl t)
    (fun t => by rw [e1]; exact hx t)
  rw [hs] at q
  exact q

end Cert.Equal

end
-- ==== Proof.Same.lean ====
module

public import proofs.«01_k».proof.Defs
public import proofs.«01_k».proof.Proof.Gen.Kernel
public import proofs.«01_k».proof.Proof.KernelRun

/-! The kernel and the idealized kernel are one program text, read at any float values: no rule rewrote an operation. So what
    the run of the one shows of termination, arguments and counters holds of the other. -/

@[expose] public section

set_option maxRecDepth 16384

noncomputable section

namespace Cert.Same

open Idealize.ShloMosaic Idealize.SL.Sem

variable {F : FTy → Type} [FloatOps F]

/-- The two programs' kernel bodies are the same, label by label. -/
theorem bodies_eq : Cert.Kernel.defs₀ (F := F) = Cert.KernelIdeal.defs₀ := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀)) ?_
  funext l a
  match l, a with
  | ⟨0, _⟩, (t, s) => rfl

/-- The two programs' definitions, pipeline and bodies, are the same. -/
theorem defs_eq : Cert.Kernel.defs (F := F) = Cert.KernelIdeal.defs := by
  unfold Cert.Kernel.defs Cert.KernelIdeal.defs
  exact congrArg (Pipeline.defs (Cert.Kernel.pcfgs (F := F))) bodies_eq

/-- The two programs' main functions are the same. -/
theorem main_eq : Cert.Kernel.main (F := F) = Cert.KernelIdeal.main := rfl

/-- The kernel terminates, keeps its arguments and ends with every semaphore counter at zero. -/
theorem frame_kernel : Cert.quiescent_Kernel := by
  intro m g _
  rw [defs_eq, main_eq]
  exact Cert.KernelIdeal.Run.quiescent (F := Bits) m g

end Cert.Same

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelOut
public import proofs.«01_k».proof.Proof.Equal
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.SL.Sem

/-- The idealized reference runs, keeps its arguments and ends with every semaphore counter at zero. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Of agreeing arguments that meet the precondition, the idealized kernel and the idealized reference end with the same result. -/
theorem same_result :
    Cert.algebraic_KernelIdeal_ReferenceIdeal_pre_finite_tokens (hPre_finite_tokens := Cert.Fin.facts) := by
  intro m g m' g' hp ha
  refine ⟨fun c => Cert.KernelIdeal.Run.outV m c (Cert.KernelIdeal.Run.pt 15), Cert.KernelIdeal.Run.run_out m g, ?_⟩
  refine (θ_run Cert.ReferenceIdeal.defs _ _).mono (fun r h c => ⟨?_, (h c).2⟩) (Cert.ReferenceIdeal.Value.run (F := Ideal) m' g')
  obtain ⟨e0, e1, e2, e3, e4, e5, e6, e7, e8, e9, e10, e11, e12⟩ := ha c
  exact (h c).1.trans (Cert.Equal.out_eq m m' c hp e0 e1 e2 e3 e4 e5 e6 e7 e8 e9 e10 e11 e12)

/-- All the claims of the certificate. -/
theorem claim : Cert.Claim :=
  ⟨Cert.Kernel.Gen.facts, Cert.KernelIdeal.Gen.facts, Cert.ReferenceIdeal.Gen.facts, Cert.Fin.facts,
    Cert.Same.frame_kernel,
    fun m g _ => Cert.KernelIdeal.Run.quiescent m g,
    fun m g _ => Cert.KernelIdeal.Run.quiescent m g,
    frame_reference,
    fun m g _ => frame_reference m g trivial,
    trivial,
    same_result⟩

end Cert.Proof

end
